-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_finite : Cert.Pre_in_range_and_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range.lean ====
abbrev S1024 : Shape := ⟨1, ![1024]⟩
abbrev S100000x64 : Shape := ⟨2, ![100000, 64]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x64 .f32) (main_arg2 : FVec F S100000x64 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_range_and_finite.lean ====
abbrev S1024 : Shape := ⟨1, ![1024]⟩
abbrev S100000x64 : Shape := ⟨2, ![100000, 64]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v5 : IVec S_ 1) (main_v9 : IVec S_ 1) (main_v13 : IVec S_ 1) (main_v14 : FVec F S100000 .f32) (main_v15 : FVec F S100000 .f32) : IVec S_ 1 :=
  let main_v16 : IVec S100000 1 := cmpf .olt main_v14 main_v15
  let main_c_6 : IVec S_ 1 := constantI S_ 1 1#1
  let main_v17 : IVec S_ 1 := (fun x v => Host.reduce IntOp.andi x v reducesTo_S100000_S_d0 h_S_) main_v16 main_c_6
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : IVec S1024 32) (main_arg1 : FVec F S100000x64 .f32) (main_arg2 : FVec F S100000x64 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S100000x64 .f32 := Host.absf main_arg1
  let main_cst : FVec F S_ .f32 := constant S_ .f32 0x7F800000#32
  let main_v7 : FVec F S100000x64 .f32 := broadcastInDim S100000x64 ![] bcast_S_S100000x64 main_cst
  let main_v8 : IVec S100000x64 1 := cmpf .olt main_v6 main_v7
  let main_c_2 : IVec S_ 1 := constantI S_ 1 1#1
  let main_v9 : IVec S_ 1 := (fun x v => Host.reduce IntOp.andi x v reducesTo_S100000x64_S_d0_1 h_S_) main_v8 main_c_2
  let main_v10 : FVec F S100000x64 .f32 := Host.absf main_arg2
  let main_cst_3 : FVec F S_ .f32 := constant S_ .f32 0x7F800000#32
  let main_v11 : FVec F S100000x64 .f32 := broadcastInDim S100000x64 ![] bcast_S_S100000x64 main_cst_3
  let main_v12 : IVec S100000x64 1 := cmpf .olt main_v10 main_v11
  let main_c_4 : IVec S_ 1 := constantI S_ 1 1#1
  let main_v13 : IVec S_ 1 := (fun x v => Host.reduce IntOp.andi x v reducesTo_S100000x64_S_d0_1 h_S_) main_v12 main_c_4
  let main_v14 : FVec F S100000 .f32 := Host.absf main_arg3
  let main_cst_5 : FVec F S_ .f32 := constant S_ .f32 0x7F800000#32
  let main_v15 : FVec F S100000 .f32 := broadcastInDim S100000 ![] bcast_S_S100000 main_cst_5
  fn_part1 (F := F) main_v5 main_v9 main_v13 main_v14 main_v15
-- ==== Kernel.lean ====
abbrev S1024 : Shape := ⟨1, ![1024]⟩
abbrev S100000x64 : Shape := ⟨2, ![100000, 64]⟩
abbrev S100000 : Shape := ⟨1, ![100000]⟩
abbrev S_ : Shape := ⟨0, ![]⟩
abbrev S1x1024 : Shape := ⟨2, ![1, 1024]⟩
abbrev S1024x1 : Shape := ⟨2, ![1024, 1]⟩
abbrev S50000x128 : Shape := ⟨2, ![50000, 128]⟩
abbrev S1024x128 : Shape := ⟨2, ![1024, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1x100000 : Shape := ⟨2, ![1, 100000]⟩
abbrev S64x100000 : Shape := ⟨2, ![64, 100000]⟩
abbrev S64x4096 : Shape := ⟨2, ![64, 4096]⟩
abbrev S1x4096 : Shape := ⟨2, ![1, 4096]⟩
abbrev S1024x64 : Shape := ⟨2, ![1024, 64]⟩
abbrev S1024x4096 : Shape := ⟨2, ![1024, 4096]⟩
abbrev S1024x100000 : Shape := ⟨2, ![1024, 100000]⟩

abbrev nBuf : Table → Nat
  | .hbm => 53
  | .local .tc .vmem => 18
  | .local .scVector .vmem => 2
  | _ => 0

abbrev bufTy : (tb : Table) → Fin (nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1x1024, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S_, .i1⟩
  | .hbm, ⟨39, _⟩ => ⟨S1024, .i1⟩
  | .hbm, ⟨40, _⟩ => ⟨S1024, .i1⟩
  | .hbm, ⟨41, _⟩ => ⟨S1024, .i1⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S1024x1, .i32⟩
  | .hbm, ⟨46, _⟩ => ⟨S50000x128, .f32⟩
  | .hbm, ⟨47, _⟩ => ⟨S1024x128, .f32⟩
  | .hbm, ⟨48, _⟩ => ⟨S1x100000, .f32⟩
  | .hbm, ⟨49, _⟩ => ⟨S64x100000, .f32⟩
  | .hbm, ⟨50, _⟩ => ⟨S1024x1, .f32⟩
  | .hbm, ⟨51, _⟩ => ⟨S1024x100000, .bf16⟩
  | .hbm, ⟨52, _⟩ => ⟨S1024x100000, .f32⟩
  | .local .tc .vmem, ⟨0, _⟩ => ⟨S1024x128, .f32⟩
  | .local .tc .vmem, ⟨1, _⟩ => ⟨S1024x1, .i32⟩
  | .local .tc .vmem, ⟨2, _⟩ => ⟨S64x4096, .f32⟩
  | .local .tc .vmem, ⟨3, _⟩ => ⟨S64x4096, .f32⟩
  | .local .tc .vmem, ⟨4, _⟩ => ⟨S1x4096, .f32⟩
  | .local .tc .vmem, ⟨5, _⟩ => ⟨S1x4096, .f32⟩
  | .local .tc .vmem, ⟨6, _⟩ => ⟨S1024x1, .f32⟩
  | .local .tc .vmem, ⟨7, _⟩ => ⟨S1024x1, .f32⟩
  | .local .tc .vmem, ⟨8, _⟩ => ⟨S1024x1, .f32⟩
  | .local .tc .vmem, ⟨9, _⟩ => ⟨S1024x128, .f32⟩
  | .local .tc .vmem, ⟨10, _⟩ => ⟨S1024x1, .i32⟩
  | .local .tc .vmem, ⟨11, _⟩ => ⟨S64x4096, .f32⟩
  | .local .tc .vmem, ⟨12, _⟩ => ⟨S64x4096, .f32⟩
  | .local .tc .vmem, ⟨13, _⟩ => ⟨S1x4096, .f32⟩
  | .local .tc .vmem, ⟨14, _⟩ => ⟨S1x4096, .f32⟩
  | .local .tc .vmem, ⟨15, _⟩ => ⟨S1024x1, .f32⟩
  | .local .tc .vmem, ⟨16, _⟩ => ⟨S1024x4096, .bf16⟩
  | .local .tc .vmem, ⟨17, _⟩ => ⟨S1024x4096, .bf16⟩
  | .local .scVector .vmem, ⟨0, _⟩ => ⟨S2x1x128, .i32⟩
  | .local .scVector .vmem, ⟨1, _⟩ => ⟨S2x128x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v4_scv : Ref sig .scVector := ⟨.hbm, 46, rfl⟩
abbrev main_v1_scv : Ref sig .scVector := ⟨.hbm, 22, rfl⟩
abbrev main_v5_scv : Ref sig .scVector := ⟨.hbm, 47, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_scratch0 : Ref sig .tc := ⟨.vmem, 7, rfl⟩
abbrev cc1_scratch1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc2_sem0_0 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem5_0 : DmaSem sig := 20
abbrev cc2_sem5_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c0_i32_7_r0 : BitVec 32 := 0#32
  let v14_r0 : BitVec 1 := Scalar.cmpi .sgt v11 c0_i32_7_r0
  let v15_r0 : BitVec 32 := Scalar.extui v14_r0
  let c0_i32_8_r0 : BitVec 32 := 0#32
  let v16_r0 : BitVec 1 := Scalar.cmpi .ne v15_r0 c0_i32_8_r0
  v16_r0

def k0_cond2 (i : grid0.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v17_r0 : BitVec 32 := Scalar.muli c1_i32_9_r0 v5
  let c0_i32_23_r0 : BitVec 32 := 0#32
  let v35_r0 : BitVec 1 := Scalar.cmpi .sgt v17_r0 c0_i32_23_r0
  let v36_r0 : BitVec 1 := Scalar.andi true_24_r0 v35_r0
  let true_25_r0 : BitVec 1 := 1#1
  let v37_r0 : BitVec 1 := Scalar.andi v36_r0 true_25_r0
  let v38_r0 : BitVec 32 := Scalar.extui v37_r0
  let c0_i32_27_r0 : BitVec 32 := 0#32
  let v39_r0 : BitVec 1 := Scalar.cmpi .ne v38_r0 c0_i32_27_r0
  v39_r0

def k0_off1 : Fin 3 → Nat :=
  let c0_i32_26_r0 : BitVec 32 := 0#32
  let c2_i32_r0 : BitVec 32 := 2#32
  let v80_r0 : BitVec 32 := Scalar.remui c0_i32_26_r0 c2_i32_r0
  let c0_i32_59_r0 : BitVec 32 := 0#32
  let c0_i32_60_r0 : BitVec 32 := 0#32
  ![v80_r0.toNat, 0, 0]
def k0_off2 (i : grid0.Coords) : Fin 2 → Nat :=
  let c0_i32_61_r0 : BitVec 32 := 0#32
  let c128_i32_r0 : BitVec 32 := 128#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v20_r0 : BitVec 32 := Scalar.addi c0_i32_12_r0 v10
  let v81_r0 : BitVec 32 := Scalar.muli c128_i32_r0 v20_r0
  ![0, v81_r0.toNat]
def k0_off3 : Fin 1 → Nat :=
  let c0_i32_26_r0 : BitVec 32 := 0#32
  let c2_i32_r0 : BitVec 32 := 2#32
  let v80_r0 : BitVec 32 := Scalar.remui c0_i32_26_r0 c2_i32_r0
  ![v80_r0.toNat]
@[reducible] def k0_t1_loop (i : grid0.Coords) : Scf.Loop 32 :=
  let c0_i32_31_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_37_r0 : BitVec 32 := 1#32
  ⟨c0_i32_31_r0, v46_r0, c1_i32_37_r0⟩
def k0_off4 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v101_r0 : BitVec 1 := Scalar.cmpi .ne v84_r0 v95_r0
  let c0_i32_31_r0 : BitVec 32 := 0#32
  let c1_i32_37_r0 : BitVec 32 := 1#32
  let arg5_r0 : BitVec 32 := Scf.iv c0_i32_31_r0 c1_i32_37_r0 k0_t1
  let c1_i32_59_r0 : BitVec 32 := 1#32
  let v80_r0 : BitVec 32 := Scalar.muli c1_i32_59_r0 v5
  let c2_i32_r0 : BitVec 32 := 2#32
  let v102_r0 : BitVec 32 := Scalar.subi v80_r0 c2_i32_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off5 (i : grid0.Coords) (arg10_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v93_r0 : BitVec 1 := Scalar.cmpi .eq v92_r0 v5
  let c0_i32_68_r0 : BitVec 32 := 0#32
  let v94_r0 : BitVec 32 := Scalar.select v93_r0 c0_i32_68_r0 v92_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_103_r0 : BitVec 32 := 2#32
  let v167_r0 : BitVec 32 := Scalar.remui arg6_r0 c2_i32_103_r0
  ![v167_r0.toNat]
def k0_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_31_r0 : BitVec 32 := 0#32
  let c1_i32_37_r0 : BitVec 32 := 1#32
  let arg5_r0 : BitVec 32 := Scf.iv c0_i32_31_r0 c1_i32_37_r0 k0_t1
  let c0_i32_60_r0 : BitVec 32 := 0#32
  let v81_r0 : BitVec 1 := Scalar.cmpi .eq arg5_r0 c0_i32_60_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off8 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_103_r0 : BitVec 32 := 2#32
  let v168_r0 : BitVec 32 := Scalar.remui arg7_r0 c2_i32_103_r0
  ![v168_r0.toNat]
def k0_off10 (arg8_r0 : BitVec 32) : Fin 3 → Nat :=
  let c2_i32_86_r0 : BitVec 32 := 2#32
  let v132_r0 : BitVec 32 := Scalar.remui arg8_r0 c2_i32_86_r0
  let c0_i32_103_r1 : BitVec 32 := 0#32
  let c0_i32_104_r1 : BitVec 32 := 0#32
  ![v132_r0.toNat, 0, 0]

def k0_chk2 (i : grid0.Coords) (k0_t1 : Fin (k0_t1_loop i).trips) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (k0_t1 : Fin (k0_t1_loop i).trips) (arg8_r0 : BitVec 32) (k0_hw2 : k0_chk2 i k0_t1 arg8_r0), ∀ (k0_h1 : k0_cond1 i = 1#1), ∀ a, (k0_off10 arg8_r0) a + S1x128x128.size a ≤ S2x128x128.size a := fun i k0_t1 arg8_r0 k0_hw2 k0_h1 => k0_hw2 k0_h1

def k0_off11 (arg7_r0 : BitVec 32) : Fin 3 → Nat :=
  let c2_i32_85_r0 : BitVec 32 := 2#32
  let v131_r0 : BitVec 32 := Scalar.remui arg7_r0 c2_i32_85_r0
  let c0_i32_105_r1 : BitVec 32 := 0#32
  let c0_i32_106_r1 : BitVec 32 := 0#32
  ![v131_r0.toNat, 0, 0]

def k0_chk3 (i : grid0.Coords) (k0_t1 : Fin (k0_t1_loop i).trips) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (k0_t1 : Fin (k0_t1_loop i).trips) (arg7_r0 : BitVec 32) (k0_hw3 : k0_chk3 i k0_t1 arg7_r0), ∀ (k0_h1 : k0_cond1 i = 1#1), ∀ a, (k0_off11 arg7_r0) a + S1x1x128.size a ≤ S2x1x128.size a := fun i k0_t1 arg7_r0 k0_hw3 k0_h1 => k0_hw3 k0_h1

def k0_off12 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v138_r0 : BitVec 1 := Scalar.cmpi .ne v84_r0 v95_r0
  let c0_i32_31_r0 : BitVec 32 := 0#32
  let c1_i32_37_r0 : BitVec 32 := 1#32
  let arg5_r0 : BitVec 32 := Scf.iv c0_i32_31_r0 c1_i32_37_r0 k0_t1
  let c1_i32_59_r0 : BitVec 32 := 1#32
  let v80_r0 : BitVec 32 := Scalar.muli c1_i32_59_r0 v5
  let c1_i32_61_r0 : BitVec 32 := 1#32
  let v82_r0 : BitVec 32 := Scalar.subi v80_r0 c1_i32_61_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off14 (arg8_r0 : BitVec 32) : Fin 1 → Nat :=
  let c2_i32_103_r0 : BitVec 32 := 2#32
  let v167_r0 : BitVec 32 := Scalar.remui arg8_r0 c2_i32_103_r0
  ![v167_r0.toNat]
def k0_off15 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_31_r0 : BitVec 32 := 0#32
  let c1_i32_37_r0 : BitVec 32 := 1#32
  let arg5_r0 : BitVec 32 := Scf.iv c0_i32_31_r0 c1_i32_37_r0 k0_t1
  let c0_i32_60_r0 : BitVec 32 := 0#32
  let v81_r0 : BitVec 1 := Scalar.cmpi .eq arg5_r0 c0_i32_60_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off16 (i : grid0.Coords) (arg10_r0 : BitVec 32) : Fin 2 → Nat :=
  let c128_i32_r0 : BitVec 32 := 128#32
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_65_r0 : BitVec 32 := 1#32
  let v88_r0 : BitVec 32 := Scalar.subi v5 c1_i32_65_r0
  let v89_r0 : BitVec 32 := Scalar.select v87_r0 v88_r0 v86_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off17 (arg9_r0 : BitVec 32) : Fin 1 → Nat :=
  let c2_i32_103_r0 : BitVec 32 := 2#32
  let v167_r0 : BitVec 32 := Scalar.remui arg9_r0 c2_i32_103_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x1024.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x1024.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S1024x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S1024x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x1024.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x1024.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S1024x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S1024x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_31_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let v43_r0 : BitVec 32 := Scalar.addi c0_i32_31_r0 v42_r0
  let c1_i32_38_r0 : BitVec 32 := 1#32
  ⟨v46_r0, v43_r0, c1_i32_38_r0⟩
def k0_off18 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v101_r0 : BitVec 1 := Scalar.cmpi .ne v84_r0 v95_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c1_i32_59_r0 : BitVec 32 := 1#32
  let v80_r0 : BitVec 32 := Scalar.muli c1_i32_59_r0 v5
  let c2_i32_r0 : BitVec 32 := 2#32
  let v102_r0 : BitVec 32 := Scalar.subi v80_r0 c2_i32_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off19 (i : grid0.Coords) (arg10_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v93_r0 : BitVec 1 := Scalar.cmpi .eq v92_r0 v5
  let c0_i32_68_r0 : BitVec 32 := 0#32
  let v94_r0 : BitVec 32 := Scalar.select v93_r0 c0_i32_68_r0 v92_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_103_r0 : BitVec 32 := 2#32
  let v167_r0 : BitVec 32 := Scalar.remui arg6_r0 c2_i32_103_r0
  ![v167_r0.toNat]
def k0_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c0_i32_60_r0 : BitVec 32 := 0#32
  let v81_r0 : BitVec 1 := Scalar.cmpi .eq arg5_r0 c0_i32_60_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off22 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_103_r0 : BitVec 32 := 2#32
  let v168_r0 : BitVec 32 := Scalar.remui arg7_r0 c2_i32_103_r0
  ![v168_r0.toNat]
def k0_off24 (arg8_r0 : BitVec 32) : Fin 3 → Nat :=
  let c2_i32_86_r0 : BitVec 32 := 2#32
  let v132_r0 : BitVec 32 := Scalar.remui arg8_r0 c2_i32_86_r0
  let c0_i32_103_r2 : BitVec 32 := 0#32
  let c0_i32_104_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_85_r0 : BitVec 32 := 2#32
  let v131_r0 : BitVec 32 := Scalar.remui arg7_r0 c2_i32_85_r0
  let c0_i32_105_r2 : BitVec 32 := 0#32
  let c0_i32_106_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v138_r0 : BitVec 1 := Scalar.cmpi .ne v84_r0 v95_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c1_i32_59_r0 : BitVec 32 := 1#32
  let v80_r0 : BitVec 32 := Scalar.muli c1_i32_59_r0 v5
  let c1_i32_61_r0 : BitVec 32 := 1#32
  let v82_r0 : BitVec 32 := Scalar.subi v80_r0 c1_i32_61_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off28 (arg8_r0 : BitVec 32) : Fin 1 → Nat :=
  let c2_i32_103_r0 : BitVec 32 := 2#32
  let v167_r0 : BitVec 32 := Scalar.remui arg8_r0 c2_i32_103_r0
  ![v167_r0.toNat]
def k0_off29 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c0_i32_60_r0 : BitVec 32 := 0#32
  let v81_r0 : BitVec 1 := Scalar.cmpi .eq arg5_r0 c0_i32_60_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off30 (i : grid0.Coords) (arg10_r0 : BitVec 32) : Fin 2 → Nat :=
  let c128_i32_r0 : BitVec 32 := 128#32
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_65_r0 : BitVec 32 := 1#32
  let v88_r0 : BitVec 32 := Scalar.subi v5 c1_i32_65_r0
  let v89_r0 : BitVec 32 := Scalar.select v87_r0 v88_r0 v86_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off31 (arg9_r0 : BitVec 32) : Fin 1 → Nat :=
  let c2_i32_103_r0 : BitVec 32 := 2#32
  let v167_r0 : BitVec 32 := Scalar.remui arg9_r0 c2_i32_103_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x1024.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x1024.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S1024x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S1024x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x1024.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x1024.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S1024x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S1024x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c1_i32_43_r0 : BitVec 32 := 1#32
  let v54_r0 : BitVec 32 := Scalar.subi v11 c1_i32_43_r0
  let c1_i32_44_r0 : BitVec 32 := 1#32
  let v55_r0 : BitVec 32 := Scalar.muli c1_i32_44_r0 v5
  let c1_i32_46_r0 : BitVec 32 := 1#32
  let v57_r0 : BitVec 32 := Scalar.subi v55_r0 c1_i32_46_r0
  let v58_r0 : BitVec 1 := Scalar.cmpi .eq v54_r0 v57_r0
  let v78_r0 : BitVec 32 := Scalar.extui v58_r0
  let c0_i32_58_r0 : BitVec 32 := 0#32
  let v79_r0 : BitVec 1 := Scalar.cmpi .ne v78_r0 c0_i32_58_r0
  v79_r0

def k0_off32 (v48_3_r0 : BitVec 32) : Fin 3 → Nat :=
  let c2_i32_r0 : BitVec 32 := 2#32
  let v80_r0 : BitVec 32 := Scalar.remui v48_3_r0 c2_i32_r0
  let c0_i32_59_r0 : BitVec 32 := 0#32
  let c0_i32_60_r0 : BitVec 32 := 0#32
  ![v80_r0.toNat, 0, 0]

def k0_off33 (i : grid0.Coords) (v48_4_r0 : BitVec 32) : Fin 2 → Nat :=
  let c128_i32_r0 : BitVec 32 := 128#32
  let true_40_r0 : BitVec 1 := 1#1
  let c1_i32_39_r0 : BitVec 32 := 1#32
  let v49_r0 : BitVec 32 := Scalar.subi v48_4_r0 c1_i32_39_r0
  let v50_r0 : BitVec 32 := Scalar.select true_40_r0 v49_r0 v48_4_r0
  let c_m1_i32_41_r0 : BitVec 32 := 4294967295#32
  let v51_r0 : BitVec 1 := Scalar.cmpi .eq v50_r0 c_m1_i32_41_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_42_r0 : BitVec 32 := 1#32
  let v52_r0 : BitVec 32 := Scalar.subi v5 c1_i32_42_r0
  let v53_r0 : BitVec 32 := Scalar.select v51_r0 v52_r0 v50_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v59_r0 : BitVec 32 := Scalar.addi v53_r0 v10
  let v81_r0 : BitVec 32 := Scalar.muli c128_i32_r0 v59_r0
  let c0_i32_61_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S1024x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S1024x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_63_r0 : BitVec 32 := 0#32
  let c0_i32_64_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v56 : BitVec 1 := Scalar.cmpi .eq arg0 c24_i32
  let v57 : BitVec 32 := Scalar.extui v56
  let c0_i32_20 : BitVec 32 := 0#32
  let v58 : BitVec 1 := Scalar.cmpi .ne v57 c0_i32_20
  v58

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024 : Shape := ⟨1, ![1024]⟩
abbrev S100000x64 : Shape := ⟨2, ![100000, 64]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 47
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x64, .f32⟩
  | .hbm, ⟨23, _⟩ => ⟨S1024x64, .i1⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S64x100000, .f32⟩
  | .hbm, ⟨28, _⟩ => ⟨S1024x100000, .f32⟩
  | .hbm, ⟨29, _⟩ => ⟨S1x100000, .f32⟩
  | .hbm, ⟨30, _⟩ => ⟨S1024x100000, .f32⟩
  | .hbm, ⟨31, _⟩ => ⟨S1024x100000, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1024x100000, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S1024x1, .f32⟩
  | .hbm, ⟨45, _⟩ => ⟨S1024x100000, .f32⟩
  | .hbm, ⟨46, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v6 : Ref sig .tc := ⟨.hbm, 46, rfl⟩

abbrev nD : Nat := 1
abbrev τ : Topo := Topo.v7x

variable {F : FTy → Type} [FloatOps F]
-- ==== Proof.Shared.Range.lean ====
/-
  What the precondition says of the ids: the predicate "every id is at least 0 and below 100,000", as it is printed,
  read back as a bound on each word.
-/
module

public import proofs.«01_k».proof.Proof.Gen.Pre_in_range
public import Idealize.ShloMosaic.Lib.ReduceAll

@[expose] public section

namespace Cert.Proof.Shared

open Idealize.ShloMosaic

instance : Subsingleton (Shape.Idx ⟨0, ![]⟩) := ⟨fun _ _ => funext fun a => a.elim0⟩

/-- A word that is at least 0 and below 100,000 as a signed number is below 100,000. -/
theorem word_lt {v : BitVec 32} (e : IntOp.andi (IntOp.cmpi .sge v 0#32) (IntOp.cmpi .slt v 100000#32) = 1#1) :
    v.toNat < 100000 := by
  obtain ⟨h1, h2⟩ := IntOp.andi_eq_one.1 e
  have h1 := IntOp.cmpi_sge.1 h1
  have h2 := IntOp.cmpi_slt.1 h2
  simp only [BitVec.toInt_eq_toNat_cond, BitVec.toNat_ofNat, Nat.reducePow, Nat.reduceMod] at h1 h2
  omega

/-- Every id is below 100,000 where the precondition holds. -/
theorem id_lt {F : FTy → Type} [FloatOps F] {a0 : IVec Pre_in_range.S1024 32} {a1 : FVec F Pre_in_range.S100000x64 .f32}
    {a2 : FVec F Pre_in_range.S100000x64 .f32} {a3 : FVec F Pre_in_range.S100000 .f32}
    (h : Pre_in_range.fn (F := F) a0 a1 a2 a3 = fun _ => 1#1) (i : Pre_in_range.S1024.Idx) : (a0 i).toNat < 100000 := by
  have e := congrFun h (fun a => a.elim0)
  unfold Pre_in_range.fn at e
  exact word_lt (Host.reduce_andi_all _ _ _ _ _ e i)

end Cert.Proof.Shared

end
-- ==== Proof.Shared.Finite.lean ====
/-
  What the precondition of the value claim says: the ids are in range, and every entry of the table, of the weights and
  of the bias is a real number.
-/
module

public import proofs.«01_k».proof.Proof.Shared.Range
public import proofs.«01_k».proof.Proof.Gen.Pre_in_range_and_finite
public import Idealize.ShloMosaic.PureOps.Ideal

@[expose] public section

namespace Cert.Proof.Shared

open Idealize.ShloMosaic

/-- A value whose absolute value is below infinity is a real number. -/
theorem real_of_abs_lt {x : Ideal .f32}
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have h : Ideal.cmp .olt (max (x : EReal) (-(x : EReal))) (Ideal.ofBits .f32 0x7F800000#32) = 1#1 := h
  rw [htop] at h
  induction x using EReal.rec with
  | bot => exact absurd h (by simp [Ideal.cmp])
  | top => exact absurd h (by simp [Ideal.cmp])
  | coe r => exact ⟨r, rfl⟩

variable {a0 : IVec Pre_in_range_and_finite.S1024 32} {a1 a2 : FVec Ideal Pre_in_range_and_finite.S100000x64 .f32}
  {a3 : FVec Ideal Pre_in_range_and_finite.S100000 .f32}

theorem reals (h : Pre_in_range_and_finite.fn (F := Ideal) a0 a1 a2 a3 = fun _ => 1#1) :
    (∀ i, (a0 i).toNat < 100000) ∧ (∀ i, ∃ r : ℝ, a1 i = (r : EReal)) ∧ (∀ i, ∃ r : ℝ, a2 i = (r : EReal)) ∧ ∀ i, ∃ r : ℝ, a3 i = (r : EReal) := by
  have e := congrFun h (fun a => a.elim0)
  unfold Pre_in_range_and_finite.fn Pre_in_range_and_finite.fn_part1 at e
  obtain ⟨e, e3⟩ := IntOp.andi_eq_one.1 e
  obtain ⟨e, e2⟩ := IntOp.andi_eq_one.1 e
  obtain ⟨e0, e1⟩ := IntOp.andi_eq_one.1 e
  exact ⟨fun i => word_lt (Host.reduce_andi_all _ _ _ _ _ e0 i), fun i => real_of_abs_lt (Host.reduce_andi_all _ _ _ _ _ e1 i),
    fun i => real_of_abs_lt (Host.reduce_andi_all _ _ _ _ _ e2 i), fun i => real_of_abs_lt (Host.reduce_andi_all _ _ _ _ _ e3 i)⟩

end Cert.Proof.Shared

end
-- ==== Proof.Shared.Region.lean ====
/-
  A pipelined TensorCore call between two states that hold every unscoped buffer: entered with the buffers at a
  valuation `V`, left with them at some valuation that agrees with `V` off the call's arrays and whose arrays are as
  the call's relation allows. Stated for any program.
-/
module

public import Idealize.ShloMosaic.Lib.Pipeline.RegionArraysD
public import Idealize.ShloMosaic.Lib.Pipeline.FrameBody

@[expose] public section

noncomputable section

namespace Cert.Proof.Shared

open Idealize.ShloMosaic Idealize.ShloMosaic.TcCoe Idealize.ShloMosaic.Pipeline
open Idealize.SL Idealize.SL.RA
open Idealize.SL.BI (sProp bigSep bigSep_congr)
open scoped Idealize.SL.BI
open Idealize.SL.BI.BIBase Idealize.SL.BI.Laws Idealize.SL.Sem Idealize.SL.ProofMode

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {P : Type} [Fintype P]

local notation "𝕄" => MT nD τ sig Ix Val Name U Lvl

/-- The contents of a core's buffers. -/
abbrev Contents (nD : Nat) (τ : Topo) (sig : RefSig) (Val : EltTy → Type) (c : Dev nD) : Type :=
  (b : Ref sig .tc) → Buf Val ((c.tc : Thread nD τ).loc b)

/-- Contents that have given distinct buffers at given contents and are as before elsewhere. -/
theorem exists_update {gr W : Nat} (win : Fin W → WinSpec sig gr) (hinj : Function.Injective (arrRef win)) (c : Dev nD)
    (A : (w : Fin W) → Buf Val ((c.tc : Thread nD τ).loc (arrRef win w))) (V : Contents nD τ sig Val c) :
    ∃ V' : Contents nD τ sig Val c, (∀ w, V' (arrRef win w) = A w) ∧ ∀ b, b ∉ Finset.univ.image (arrRef win) → V' b = V b := by
  classical
  refine ⟨fun b => if h : ∃ w, arrRef win w = b then h.choose_spec ▸ A h.choose else V b, fun w => ?_, fun b hb => ?_⟩
  · have h : ∃ w', arrRef win w' = arrRef win w := ⟨w, rfl⟩
    have key : ∀ (w' : Fin W) (e : arrRef win w' = arrRef win w), (e ▸ A w' : Buf Val ((c.tc : Thread nD τ).loc (arrRef win w))) = A w := by
      intro w' e
      obtain rfl := hinj e
      rfl
    show (if h : ∃ w', arrRef win w' = arrRef win w then _ else _) = _
    rw [dif_pos h]
    exact key _ h.choose_spec
  · exact dif_neg fun ⟨w, hw⟩ => hb (hw ▸ Finset.mem_image_of_mem _ (Finset.mem_univ w))

section Region

variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants)
  (L : GSem nD τ sig → Finset Ix) (lv : GSem nD τ sig → Ix → Lvl)
  (p : P)

/-- What a call's contents `V` may become. -/
def Becomes (c : Dev nD) (V V' : Contents nD τ sig Val c) : Prop :=
  (∀ w, (rdats p c).ArrAt w (pin pcs a p).N (V' (arrRef (pin pcs a p).spec w)))
    ∧ ∀ b, b ∉ Finset.univ.image (arrRef (pin pcs a p).spec) → V' b = V b

omit [Fintype P] [Preorder Lvl] in
/-- The arrays at some contents the relation allows, each, are the arrays at one choice of such contents. -/
theorem arraysAt_exists [∀ e, Nonempty (Val e)] {cfg : Cfg sig Λ₀} {c : Dev nD} (rd : RDat τ Val Ix Name U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

/-- The call, over every unscoped buffer and the core's dues: nothing owed, the recorded waits within `Rc`. -/
def region [∀ e, Nonempty (Val e)] (kit : PLaunchFacts (nD := nD) (τ := τ) pcs p) (hK : (pcs p).pre.K = 0)
    (V : (c : Dev nD) → Contents nD τ sig Val c)
    (hA : ∀ c w, (rdats p c).A w = V c (arrRef (pin pcs a p).spec w))
    (hshare : ∀ c w, (rdats p c).share w = fullShare)
    (hbody : ∀ c, (rdats p c).BodyObligation defs₀ 𝒱₀ ι Set.univ)
    (howed : ∀ c t, (rdats p c).owed t = 0)
    (Rc : Dev nD → Set (SemLoc sig × Ix)) (hrec : ∀ c t, (rdats p c).bound ι t = Rc c)
    (hin : ∀ c, scopedRest (pin pcs a p).spec c ⊢ (rdats p c).Φ 0)
    (hout : ∀ c, (rdats p c).Φ (Fin.last (pin pcs a p).N) ⊢ scopedRest (pin pcs a p).spec c) :
    RDat.RegionSeg pcs a rdats ι defs₀ 𝒱₀ L lv p where
  win := kit.win.to₀
  block_pos := kit.block_pos
  stage_whole := kit.stage_whole
  K := PEmpty
  osem k := k.elim
  ho := OwnSemFacts.none _
  hbody := hbody
  hwaits := RDat.hwaits_of_owed_zero _ _ _ _ L lv p howed
  pre c := iprop(unscopedBufs c (V c) ∗ owesWithin c 0 (Rc c))
  post c := iprop((∃ V' : Contents nD τ sig Val c, ⌜Becomes pcs a rdats p c (V c) V'⌝ ∗ unscopedBufs c V') ∗ owesWithin c 0 (Rc c))
  X _ := BI.emp
  Y _ := BI.emp
  Z c := unscopedRest (pin pcs a p).spec c (V c)
  hentry c := by
    rw [ownSems0_none, prefHeld_of_none _ hK]
    have hsplit := RDat.arrays_of_unscopedBufs pcs a rdats kit.win kit.arr_whole c (hshare c) (V c) (hA c)
    iintro ⟨⟨Hub, HO⟩, -, -⟩
    ihave H := hsplit $$ Hub
    icases H with ⟨Ha, Hrest⟩
    imodintro
    isplitl [Ha]; · iexact Ha
    isplitr; · iempintro
    isplitl [HO]
    · unfold RDat.owesAt
      rw [howed c 0, hrec c]
      iexact HO
    isplitr; · iempintro
    iexact Hrest
  hin c := by
    refine Entails.trans ?_ (hin c)
    iintro ⟨-, -, H⟩; iexact H
  hout c := by
    refine (hout c).trans ?_
    rw [ownSems0_none]
    iintro H
    isplitr; · iempintro
    isplitr; · iempintro
    iexact H
  hexit c := by
    iintro ⟨Ha, HO, -, Hrest⟩
    ihave H := (arraysAt_exists (rdats p c) (pin pcs a p).N) $$ Ha
    icases H with ⟨%A, %hAA, Ha⟩
    obtain ⟨V', h1, h2⟩ := exists_update (pin pcs a p).spec kit.win.arr_inj c A (V c)
    have hjoin : iprop((rdats p c).arrays A ∗ unscopedRest (pin pcs a p).spec c (V c)) ⊢ (unscopedBufs c V' : sProp 𝕄) := by
      rw [unscopedBufs_split (pin pcs a) p kit.win.arr_unscoped kit.win.arr_inj c V',
        RDat.arrays_eq pcs a rdats p c kit.arr_whole (hshare c) A]
      refine sep_mono (Entails.of_eq (bigSep_congr fun w _ => by rw [h1 w])) ?_
      unfold unscopedRest
      exact Entails.of_eq (bigSep_congr fun b hb => by rw [h2 b (Finset.mem_sdiff.mp hb).2])
    imodintro
    isplitl [Ha Hrest]
    · iexists V'
      isplitr
      · ipureintro
        exact ⟨fun w => by rw [h1 w]; exact hAA w, h2⟩
      · iapply hjoin
        isplitl [Ha]; · iexact Ha
        iexact Hrest
    · unfold RDat.owesAt
      rw [howed c (Fin.last _), hrec c]
      iexact HO

end Region

end Cert.Proof.Shared

end
-- ==== Proof.Shared.Words.lean ====
/-
  The index words: the row of the paired table an id lies in, `id // 2`, and which half of that row it is, `id % 2`, each
  as the host computes it (floor division and remainder written over the truncating ones), and their values at an id that
  is a row of the table.
-/
module

public import Idealize.ShloMosaic.PureOps.Vector

@[expose] public section

noncomputable section

namespace Cert.Proof.Shared

open Idealize.ShloMosaic

/-- The sign of a word. -/
def signWord (x : BitVec 32) : BitVec 32 := if x = 0 then 0 else if x.msb then -1 else 1

/-- `x // 2`. -/
def halfWord (x : BitVec 32) : BitVec 32 :=
  Scalar.select (IntOp.andi (IntOp.cmpi .ne (signWord x) (signWord 2#32)) (IntOp.cmpi .ne (IntOp.remsi .host x 2#32) 0#32))
    (IntOp.subi (IntOp.divsi .host x 2#32) 1#32) (IntOp.divsi .host x 2#32)

/-- The divisor of `x % 2` as computed: `2`, were it not zero. -/
def divisorWord : BitVec 32 := Scalar.select (IntOp.cmpi .eq 2#32 0#32) 1#32 2#32

/-- `x % 2`. -/
def parityWord (x : BitVec 32) : BitVec 32 :=
  Scalar.select (IntOp.andi (IntOp.cmpi .ne (IntOp.cmpi .slt (IntOp.remsi .host x divisorWord) 0#32) (IntOp.cmpi .slt divisorWord 0#32))
      (IntOp.cmpi .ne (IntOp.remsi .host x divisorWord) 0#32))
    (IntOp.addi (IntOp.remsi .host x divisorWord) divisorWord) (IntOp.remsi .host x divisorWord)

theorem divisorWord_eq : divisorWord = 2#32 := by decide

variable {x : BitVec 32} (hx : x.toNat < 100000)
include hx

theorem msb_small : x.msb = false := by
  rw [BitVec.msb_eq_decide]; simp; omega

theorem quot_eq : IntOp.divsi .host x 2#32 = BitVec.ofNat 32 (x.toNat / 2) := by
  have h : ¬ IntOp.SDivCorner x 2#32 := by simp [IntOp.SDivCorner]
  rw [IntOp.divsi, if_neg h, BitVec.sdiv_eq, msb_small hx, show (2#32).msb = false from rfl]
  apply BitVec.eq_of_toNat_eq
  simp
  omega

theorem rem_eq : IntOp.remsi .host x 2#32 = BitVec.ofNat 32 (x.toNat % 2) := by
  have h : ¬ IntOp.SDivCorner x 2#32 := by simp [IntOp.SDivCorner]
  rw [IntOp.remsi, if_neg h, BitVec.srem_eq, msb_small hx, show (2#32).msb = false from rfl]
  apply BitVec.eq_of_toNat_eq
  simp
  omega

theorem halfWord_eq : halfWord x = BitVec.ofNat 32 (x.toNat / 2) := by
  have key : ¬ IntOp.andi (IntOp.cmpi .ne (signWord x) (signWord 2#32)) (IntOp.cmpi .ne (IntOp.remsi .host x 2#32) 0#32) = 1 := by
    by_cases h0 : x = 0
    · subst h0; decide
    · have : signWord x = signWord 2#32 := by
        unfold signWord; rw [if_neg h0, msb_small hx]; decide
      rw [this, rem_eq hx]
      rcases Nat.mod_two_eq_zero_or_one x.toNat with h | h <;> rw [h] <;> decide
  rw [halfWord, Scalar.select, if_neg key, quot_eq hx]

theorem parityWord_eq : parityWord x = BitVec.ofNat 32 (x.toNat % 2) := by
  have hr := rem_eq hx
  rw [parityWord, divisorWord_eq, hr]
  rcases Nat.mod_two_eq_zero_or_one x.toNat with h | h <;> rw [h] <;> decide

theorem halfWord_lt : (halfWord x).toNat < 50000 := by
  rw [halfWord_eq hx, BitVec.toNat_ofNat]; omega

end Cert.Proof.Shared

end
-- ==== Proof.KernelIdeal.Setup.lean ====
/-
  The launch's set-up for the proof about `KernelIdeal`: the SparseCore configuration and its facts, the resource algebra
  (the launch's handshakes, the two pipelines' cells, the transfers' counters), the names of the buffers the SparseCore
  call reads and writes, and what that call leaves: `gathered`, row `r` of its result being the row of the paired table
  that word `r` of the index list names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL

/-! ## The buffers of the SparseCore call -/

/-- The paired table, two table rows to a row. -/
abbrev tLoc (d : Dev nD) : Loc nD τ sig := (SparseCore.T d).loc main_v4
/-- The list of paired rows. -/
abbrev iLoc (d : Dev nD) : Loc nD τ sig := (SparseCore.T d).loc main_v1
/-- The result. -/
abbrev oLoc (d : Dev nD) : Loc nD τ sig := (SparseCore.T d).loc main_v5

abbrev tV : Memref sig .scVector .hbm S50000x128 .f32 := Memref.whole main_v4_scv
abbrev iV : Memref sig .scVector .hbm S1x1024 .i32 := Memref.whole main_v1_scv
abbrev oV : Memref sig .scVector .hbm S1024x128 .f32 := Memref.whole main_v5_scv
abbrev sV : Memref sig .scVector .vmem S2x1x128 .i32 := Memref.whole cc0_scoped0
abbrev rV : Memref sig .scVector .vmem S2x128x128 .f32 := Memref.whole cc0_scoped2

theorem idiv : 8 ∣ S1x1024.size 1 := ⟨128, rfl⟩
theorem odiv : 8 ∣ S1024x128.size 0 := ⟨128, rfl⟩
/-- Task `i`'s 128 columns of the index list and 128 rows of the result. -/
abbrev irow (i : Fin 8) : Rect S1x1024 := Rect.part (s := S1x1024) (a₀ := 1) idiv i
abbrev orow (i : Fin 8) : Rect S1024x128 := Rect.part (s := S1024x128) (a₀ := 0) odiv i
abbrev iRowSet (i : Fin 8) : Finset S1x1024.Idx := (iV.view.slice (irow i)).set
abbrev oRowSet (i : Fin 8) : Finset S1024x128.Idx := (oV.view.slice (orow i)).set

/-- Task `i`'s share of the table. -/
abbrev tq (i : Fin 8) : PosShare TreeShare := pieceOf fullShare 8 (by decide) i

/-- The row of the paired table a word names; the word is below 50000 wherever this is used. -/
def rowIx (w : BitVec 32) : Fin 50000 := ⟨w.toNat % 50000, Nat.mod_lt _ (by decide)⟩

/-- What the SparseCore call leaves: row `r` is the row of the paired table that word `r` of the list names. -/
def gatheredRows (t : S50000x128.Idx → F .f32) (i : S1x1024.Idx → BitVec 32) : S1024x128.Idx → F .f32 :=
  fun j => t (ix2 (rowIx (i (ix2 0 (j 0)))) (j 1))

variable (Wt : (d : Dev nD) → Buf (Elt F) (tLoc d)) (Wi : (d : Dev nD) → Buf (Elt F) (iLoc d)) (Wo : (d : Dev nD) → Buf (Elt F) (oLoc d))

/-- The same as contents of the result's buffer. -/
abbrev gathered (d : Dev nD) : Buf (Elt F) (oLoc d) := gatheredRows (F := F) (Wt d) (Wi d)

/-- Every word of the list names a row of the paired table. -/
def ListOK : Prop := ∀ (d : Dev nD) (j : S1x1024.Idx), (Wi d j).toNat < 50000

/-! ## What the handshakes carry -/

abbrev tPts (d : Dev nD) : sProp 𝕄 := tLoc d ↦{fullShare} Wt d
abbrev iPts (d : Dev nD) : sProp 𝕄 := iLoc d ↦{fullShare} Wi d
abbrev oPts (d : Dev nD) (f : Buf (Elt F) (oLoc d)) : sProp 𝕄 := oLoc d ↦{fullShare} f
abbrev tShPts (d : Dev nD) (i : Fin 8) : sProp 𝕄 := tLoc d ↦{tq i} Wt d
abbrev iRowPts (d : Dev nD) (i : Fin 8) : sProp 𝕄 := iLoc d ↦[iRowSet i]{fullShare} Wi d
abbrev oRowPts (d : Dev nD) (i : Fin 8) (f : Buf (Elt F) (oLoc d)) : sProp 𝕄 := oLoc d ↦[oRowSet i]{fullShare} f

/-- What a task is given, and what it brings back: the first eight subcores of SparseCore 0 work, the others get nothing. -/
abbrev given (d : Dev nD) (i : Fin 8) (f : Buf (Elt F) (oLoc d)) : sProp 𝕄 :=
  iprop(tShPts Wt d i ∗ iRowPts Wi d i ∗ oRowPts d i f)
def tileHas (d : Dev nD) (f : Buf (Elt F) (oLoc d)) (c i : ℕ) : sProp 𝕄 :=
  if h : c = 0 ∧ i < 8 then given Wt Wi d ⟨i, h.2⟩ f else iprop(emp)
def coreHas (d : Dev nD) (f : Buf (Elt F) (oLoc d)) (c : ℕ) : sProp 𝕄 :=
  if c = 0 then iprop(tPts Wt d ∗ iPts Wi d ∗ oPts d f) else iprop(emp)

instance (d : Dev nD) (f : Buf (Elt F) (oLoc d)) (c i : ℕ) : BI.Storable (upEmb : UEmb _ 𝕄) (tileHas Wt Wi d f c i) := by
  unfold tileHas; split <;> infer_instance
instance (d : Dev nD) (f : Buf (Elt F) (oLoc d)) (c : ℕ) : BI.Storable (upEmb : UEmb _ 𝕄) (coreHas Wt Wi d f c) := by
  unfold coreHas; split <;> infer_instance

/-- The one call: SparseCore 0 takes the table, the list and the result whole and brings them back, the result gathered. -/
def P : (K (F := F)).Pay (nD := nD) (Val := Elt F) (Name := ℕ) (U := UU) where
  st := fun q d c => match q with | 0 => coreHas Wt Wi d (Wo d) c.val
  dn := fun q d c => match q with | 0 => coreHas Wt Wi d (gathered Wt Wi d) c.val
  go := fun q d c i => match q with | 0 => tileHas Wt Wi d (Wo d) c.val i.val
  td := fun q d c i => match q with | 0 => tileHas Wt Wi d (gathered Wt Wi d) c.val i.val
  x := fun _ _ => iprop(emp)

instance P_storable : (P (F := F) Wt Wi Wo).IsStorable where
  st q d c := match q with | 0 => (inferInstance : BI.Storable (upEmb : UEmb _ 𝕄) (coreHas Wt Wi d (Wo d) c.val))
  dn q d c := match q with | 0 => (inferInstance : BI.Storable (upEmb : UEmb _ 𝕄) (coreHas Wt Wi d (gathered Wt Wi d) c.val))
  go q d c i := match q with | 0 => (inferInstance : BI.Storable (upEmb : UEmb _ 𝕄) (tileHas Wt Wi d (Wo d) c.val i.val))
  td q d c i := match q with | 0 => (inferInstance : BI.Storable (upEmb : UEmb _ 𝕄) (tileHas Wt Wi d (gathered Wt Wi d) c.val i.val))

end Cert.Proof.RunKernelIdeal

end
-- ==== Proof.KernelIdeal.TaskFacts.lean ====
/-
  The words a task of the SparseCore call computes, in closed form for every task at once; the windows a working task's
  copies address; what those windows hold after each copy.
-/
module

public import proofs.«01_k».proof.Proof.KernelIdeal.Setup
public import Idealize.ShloMosaic.Lib.VecWindow
public import Idealize.ShloMosaic.Lib.ViewIndex

@[expose] public section

noncomputable section

namespace Cert.Proof.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

/-! ## A loop of one trip, and of none -/

theorem finRange_one {n : ℕ} (h : n = 1) : List.finRange n = [⟨0, by omega⟩] := by subst h; rfl
theorem finRange_none {n : ℕ} (h : n = 0) : List.finRange n = [] := by subst h; rfl

theorem for_one {E : Type → Type} {σ : Type} {w : ℕ} (l : Scf.Loop w) (hok : l.OK) (init : σ) (body : Fin l.trips → σ → Prog E σ)
    (h : l.trips = 1) : Scf.Loop.for l hok init body = body ⟨0, by omega⟩ init := by
  unfold Scf.Loop.for
  rw [Scf.for_eq, finRange_one h, Scf.forFrom_cons]
  exact bind_pure _

theorem for_none {E : Type → Type} {σ : Type} {w : ℕ} (l : Scf.Loop w) (hok : l.OK) (init : σ) (body : Fin l.trips → σ → Prog E σ)
    (h : l.trips = 0) : Scf.Loop.for l hok init body = .ret init := by
  unfold Scf.Loop.for
  rw [Scf.for_eq, finRange_none h, Scf.forFrom_nil]

/-! ## The words a working task computes, for every task at once -/

theorem cond1_iff : ∀ i : grid0.Coords, k0_cond1 i = 1#1 ↔ ((i 0).val = 0 ∧ (i 1).val < 8) := by decide +kernel
theorem trips1 : ∀ i : grid0.Coords, k0_cond1 i = 1#1 → (k0_t1_loop i).trips = 1 := by decide +kernel
theorem trips2 : ∀ i : grid0.Coords, (k0_t2_loop i).trips = 0 := fun i => Nat.le_zero.mp (k0_t2_abs i).2.1
theorem cond2_yes : ∀ i : grid0.Coords, k0_cond1 i = 1#1 → k0_cond2 i = 1#1 := by decide +kernel
theorem cond3_no : ∀ (i : grid0.Coords), k0_cond1 i = 1#1 → ∀ k, ¬ k0_cond3 i k 0#32 = 1#1 := by decide +kernel
theorem cond4_yes : ∀ (i : grid0.Coords), k0_cond1 i = 1#1 → ∀ k, k0_cond4 i k 0#32 = 1#1 := by decide +kernel
theorem cond7_yes : ∀ (i : grid0.Coords), k0_cond1 i = 1#1 → ∀ k, k0_cond7 i k 0#32 = 1#1 := by decide +kernel
theorem cond9_no : ∀ (i : grid0.Coords), k0_cond1 i = 1#1 → ∀ k, ¬ k0_cond9 i k 0#32 = 1#1 := by decide +kernel
theorem cond18_yes : ∀ i : grid0.Coords, k0_cond1 i = 1#1 → k0_cond18 i = 1#1 := by decide +kernel
theorem off2_at : ∀ i : grid0.Coords, k0_cond1 i = 1#1 → k0_off2 i = ![0, 128 * (i 1).val] := by decide +kernel
theorem off8_at : ∀ i : grid0.Coords, k0_cond1 i = 1#1 → k0_off8 i 0#32 = ![0, 128 * (i 1).val] := by decide +kernel
theorem off13_at : ∀ i : grid0.Coords, k0_cond1 i = 1#1 → k0_off13 i 0#32 = ![128 * (i 1).val, 0] := by decide +kernel
theorem off33_at : ∀ i : grid0.Coords, k0_cond1 i = 1#1 → k0_off33 i 0#32 = ![128 * (i 1).val, 0] := by decide +kernel
theorem chk1_ok : ∀ (i : grid0.Coords) (k), k0_cond1 i = 1#1 → k0_chk1 i k 1#32 0#32 0#32 0#32 0#32 := by decide +kernel
theorem chk2_ok : ∀ (i : grid0.Coords) (k), k0_chk2 i k 0#32 := by decide +kernel
theorem chk3_ok : ∀ (i : grid0.Coords) (k), k0_chk3 i k 0#32 := by decide +kernel
theorem chk7_ok : ∀ (i : grid0.Coords), k0_chk7 i 0#32 := by decide +kernel
theorem chk8_ok : ∀ (i : grid0.Coords), k0_chk8 i 0#32 := by decide +kernel

/-- The block number a task computes is its subcore's number, and it has one block. -/
theorem count_at : ∀ i : grid0.Coords, k0_cond1 i = 1#1 →
    Scalar.select (Scalar.cmpi .slt (Scalar.addi (Scalar.addi 0#32 (Scalar.muli (BitVec.ofNat 32 (i 1).val) 1#32)) (Scalar.muli (BitVec.ofNat 32 (i 0).val) 16#32)) 8#32) 1#32 0#32 = 1#32 := by
  decide +kernel

/-- … and the block's number is the subcore's. -/
theorem number_at : ∀ i : grid0.Coords, k0_cond1 i = 1#1 →
    Scalar.select (Scalar.cmpi .slt (Scalar.addi (Scalar.addi 0#32 (Scalar.muli (BitVec.ofNat 32 (i 1).val) 1#32)) (Scalar.muli (BitVec.ofNat 32 (i 0).val) 16#32)) 8#32)
      (Scalar.muli (Scalar.addi (Scalar.addi 0#32 (Scalar.muli (BitVec.ofNat 32 (i 1).val) 1#32)) (Scalar.muli (BitVec.ofNat 32 (i 0).val) 16#32)) 1#32)
      (Scalar.addi (Scalar.muli (Scalar.addi (Scalar.addi 0#32 (Scalar.muli (BitVec.ofNat 32 (i 1).val) 1#32)) (Scalar.muli (BitVec.ofNat 32 (i 0).val) 16#32)) 0#32) 8#32)
      = BitVec.ofNat 32 (i 1).val := by
  decide +kernel

/-- The words that do not depend on the task. -/
theorem wordsAt :
    Scalar.muli 1#32 1#32 = 1#32 ∧ Scalar.subi 1#32 0#32 = 1#32 ∧ Scalar.subi 1#32 1#32 = 0#32 ∧ Scalar.subi 0#32 1#32 = 4294967295#32
    ∧ Scalar.addi 0#32 1#32 = 1#32 ∧ Scalar.divsi 1#32 1#32 = 1#32 ∧ Scalar.addi 0#32 0#32 = 0#32
    ∧ (Scalar.cmpi .sgt 1#32 0#32 : BitVec 1) = 1#1 ∧ (Scalar.cmpi .eq 1#32 1#32 : BitVec 1) = 1#1 ∧ (Scalar.cmpi .eq 0#32 0#32 : BitVec 1) = 1#1
    ∧ (Scalar.cmpi .eq 4294967295#32 4294967295#32 : BitVec 1) = 1#1
    ∧ Scf.iv (0#32) (1#32) 0 = 0#32 ∧ Scalar.andi 1#1 1#1 = 1#1 ∧ Scalar.andi 0#1 1#1 = 0#1 ∧ Scalar.andi 0#1 0#1 = 0#1
    ∧ Scalar.ori 0#1 1#1 = 1#1 ∧ Scalar.xori 1#1 1#1 = 0#1 := by
  refine ⟨?_, ?_, ?_, ?_, ?_, ?_, ?_, ?_, ?_, ?_, ?_, ?_, ?_, ?_, ?_, ?_, ?_⟩ <;> rfl
theorem select_yes {w : ℕ} (a b : BitVec w) : Scalar.select 1#1 a b = a := rfl
theorem select_no {w : ℕ} (a b : BitVec w) : Scalar.select 0#1 a b = b := rfl
theorem ne_self {w : ℕ} (a : BitVec w) : (Scalar.cmpi .ne a a : BitVec 1) = 0#1 := by simp [Scalar.cmpi, IntOp.cmpi]

section Tile

variable [FloatOps F] [Named F]
variable (Wt : (d : Dev nD) → Buf (Elt F) (tLoc d)) (Wi : (d : Dev nD) → Buf (Elt F) (iLoc d)) (Wo : (d : Dev nD) → Buf (Elt F) (oLoc d))
variable (d : Dev nD) (L : grid0.Coords)

abbrev cV (L : grid0.Coords) : Fin τ.nSC := (L 0).castLE hcore0
abbrev jV (L : grid0.Coords) : Fin τ.nSub := (L 1).castLE hsub0

theorem inb_s : ∀ a, (![0, 0, 0] : Fin 3 → ℕ) a + S1x1x128.size a ≤ S2x1x128.size a := by decide
theorem inb_r : ∀ a, (![0, 0, 0] : Fin 3 → ℕ) a + S1x128x128.size a ≤ S2x128x128.size a := by decide
/-- The first slot of the task's list buffer, as one row of 128 words and as 128 words. -/
abbrev sSlot : Memref sig .scVector .vmem S1x128 .i32 :=
  (sV.slice (Rect.unit (s := S2x1x128) ![0, 0, 0] S1x1x128.size inb_s) (fun _ => rfl)).squeeze S1x128 squeezes_S1x1x128_S1x128
abbrev sList : Memref sig .scVector .vmem S128 .i32 :=
  (sSlot.slice (Rect.unit (s := S1x128) ![0, 0] S1x128.size inb_S1x128_S1x128_0_0) (fun _ => rfl)).squeeze S128 squeezes_S1x128_S128
/-- The first slot of the task's row buffer. -/
abbrev rSlot : Memref sig .scVector .vmem S128x128 .f32 :=
  (rV.slice (Rect.unit (s := S2x128x128) ![0, 0, 0] S1x128x128.size inb_r) (fun _ => rfl)).squeeze S128x128 squeezes_S1x128x128_S128x128
/-- The paired table whole, as the stream addresses it. -/
abbrev tAll : Memref sig .scVector .hbm S50000x128 .f32 :=
  tV.slice (Rect.unit (s := S50000x128) ![0, 0] S50000x128.size inb_S50000x128_S50000x128_0_0) (fun _ => rfl)

/-- A working task's 128 words of the list and 128 rows of the result, as the copies address them. -/
abbrev iBlk (hc : k0_cond1 L = 1#1) : Memref sig .scVector .hbm S1x128 .i32 :=
  iV.slice (Rect.unit (s := S1x1024) (k0_off2 L) S1x128.size (k0_off2_inb L hc (cond2_yes L hc))) (fun _ => rfl)
theorem off13_inb (hc : k0_cond1 L = 1#1) : ∀ a, (k0_off13 L 0#32) a + S128x128.size a ≤ S1024x128.size a :=
  k0_off13_inb L ⟨0, by rw [trips1 L hc]; decide⟩ 1#32 0#32 0#32 0#32 0#32 (chk1_ok L _ hc) hc (cond7_yes L hc _)
abbrev oBlk (hc : k0_cond1 L = 1#1) : Memref sig .scVector .hbm S128x128 .f32 :=
  oV.slice (Rect.unit (s := S1024x128) (k0_off13 L 0#32) S128x128.size (off13_inb L hc)) (fun _ => rfl)

/-- The three completion semaphores a task uses: the list's copy in, the stream, the rows' copy out. -/
abbrev semI : DmaSem sig := ((cc0_scoped1.slice (Rect.unit (s := S2) ![0] S1.size (by decide))).squeeze S_ squeezes_S1_S_).sem
abbrev semO : DmaSem sig := ((cc0_scoped3.slice (Rect.unit (s := S2) ![0] S1.size (by decide))).squeeze S_ squeezes_S1_S_).sem
abbrev semG : DmaSem sig := cc0_scoped4.sem

/-- The task of the subcore at coordinates `L`. -/
@[irreducible] def taskOf (L : grid0.Coords) : Prog (TpuEff nD τ sig (Elt F) Λ₀ (.scVector ((L 0).castLE hcore0) ((L 1).castLE hsub0))) PUnit :=
  cc0_gather_kernel L tV (Memref.isWhole_whole _) iV (Memref.isWhole_whole _) oV (Memref.isWhole_whole _)
            sV (Memref.isWhole_whole _) cc0_scoped1 rV (Memref.isWhole_whole _) cc0_scoped3 cc0_scoped4 cc0_scoped5

instance : ClosedOff (k0_off7 0#32) := ⟨![0, 0, 0], by decide⟩
instance : ClosedOff (k0_off9 0#32) := ⟨![0], by decide⟩
instance : ClosedOff (k0_off10 0#32) := ⟨![0, 0, 0], by decide⟩
instance : ClosedOff (k0_off11 0#32) := ⟨![0, 0, 0], by decide⟩
instance : ClosedOff (k0_off12 0#32) := ⟨![0, 0, 0], by decide⟩
instance : ClosedOff (k0_off14 0#32) := ⟨![0], by decide⟩
instance : ClosedOff (k0_off34 0#32) := ⟨![0], by decide⟩
instance : ClosedOff (k0_off35 0#32) := ⟨![0, 0, 0], by decide⟩

/-- A buffer held whole is a window's elements of it and the rest. -/
theorem window_split {sp : Space} {s : Shape} {e : EltTy} (c : Thread nD τ) (m : Memref sig c.2.kind sp s e) (q : PosShare TreeShare)
    (f : Buf (Elt F) (m.view.loc c)) :
    (m.view.loc c ↦{q} f : sProp 𝕄) ⊣⊢ (m.view.loc c ↦[m.view.set]{q} f) ∗ (m.view.loc c ↦[Finset.univ \ m.view.set]{q} f) :=
  pointsTo_split_subset (Finset.subset_univ _)

/-- The window's elements written and the rest as it was are the buffer written through the window. -/
theorem window_join {sp : Space} {s : Shape} {e : EltTy} (c : Thread nD τ) (m : Memref sig c.2.kind sp s e) (q : PosShare TreeShare)
    (f : Buf (Elt F) (m.view.loc c)) (w : s.Idx → Elt F e) :
    iprop((m.view.loc c ↦[m.view.set]{q} m.view.write (Elt F) f w Finset.univ) ∗ (m.view.loc c ↦[Finset.univ \ m.view.set]{q} f))
      ⊢ (m.view.loc c ↦{q} m.view.write (Elt F) f w Finset.univ : sProp 𝕄) := by
  have h : (m.view.loc c ↦[Finset.univ \ m.view.set]{q} f : sProp 𝕄) = (m.view.loc c ↦[Finset.univ \ m.view.set]{q} m.view.write (Elt F) f w Finset.univ) :=
    pointsTo_congr fun p hp => (View.write_of_not_mem f w Finset.univ (Finset.mem_sdiff.mp hp).2).symm
  rw [h]
  exact (pointsTo_split_subset (Finset.subset_univ _)).2

/-- What a working task holds when it starts. -/
def tileHeld (i : Fin 8) (hc : k0_cond1 L = 1#1) (O : CellTallies nD τ sig (HIx 1)) (W : Waits sig (HIx 1)) (fs : Buf (Elt F) (sV.view.loc (V d (cV L) (jV L))))
    (fr : Buf (Elt F) (rV.view.loc (V d (cV L) (jV L)))) (fo : Buf (Elt F) (oLoc d)) : sProp 𝕄 :=
    iprop(Transfers.MayWaits (V d (cV L) (jV L)) (default : HIx 1) O
        ∗ ((iBlk L hc).view.loc (V d (cV L) (jV L)) ↦[(iBlk L hc).view.set]{fullShare} Wi d)
        ∗ (tV.view.loc (V d (cV L) (jV L)) ↦{tq i} Wt d)
        ∗ ((oBlk L hc).view.loc (V d (cV L) (jV L)) ↦[(oBlk L hc).view.set]{fullShare} fo)
        ∗ (sV.view.loc (V d (cV L) (jV L)) ↦{fullShare} fs)
        ∗ (rV.view.loc (V d (cV L) (jV L)) ↦{fullShare} fr)
        ∗ semVal ((V d (cV L) (jV L)), .dma semI) 0
        ∗ semVal ((V d (cV L) (jV L)), .dma semO) 0
        ∗ semVal ((V d (cV L) (jV L)), .dma semG) 0
        ∗ owes (V d (cV L) (jV L)) O W)

/-- What it holds when it is done: the result's rows gathered. -/
def tileDone (i : Fin 8) (hc : k0_cond1 L = 1#1) (O : CellTallies nD τ sig (HIx 1)) (W : Waits sig (HIx 1)) : sProp 𝕄 :=
    iprop(((iBlk L hc).view.loc (V d (cV L) (jV L)) ↦[(iBlk L hc).view.set]{fullShare} Wi d)
        ∗ (tV.view.loc (V d (cV L) (jV L)) ↦{tq i} Wt d)
        ∗ ((oBlk L hc).view.loc (V d (cV L) (jV L)) ↦[(oBlk L hc).view.set]{fullShare} gathered Wt Wi d)
        ∗ (∃ fs, sV.view.loc (V d (cV L) (jV L)) ↦{fullShare} fs)
        ∗ (∃ fr, rV.view.loc (V d (cV L) (jV L)) ↦{fullShare} fr)
        ∗ semVal ((V d (cV L) (jV L)), .dma semI) 0
        ∗ semVal ((V d (cV L) (jV L)), .dma semO) 0
        ∗ semVal ((V d (cV L) (jV L)), .dma semG) 0
        ∗ ∃ W', ⌜∀ p ∈ W', p ∈ W ∨ p.2 = none⌝ ∗ owes (V d (cV L) (jV L)) O W')

/-- The words the stream reads off the task's list buffer, once its copy has landed. -/
theorem list_at (hc : k0_cond1 L = 1#1) (off : Fin 3 → ℕ) (hoff : off = ![0, 0, 0]) (inb : ∀ a, off a + S1x1x128.size a ≤ S2x1x128.size a)
    (fs : Buf (Elt F) (sV.view.loc (V d (cV L) (jV L)))) (x : S128.Idx) (j : S1x1024.Idx) (h1 : (j 1).val = 128 * (L 1).val + (x 0).val) :
    sList.view.read (Elt F) (View.write (Elt F)
      ((sV.slice (Rect.unit (s := S2x1x128) off S1x1x128.size inb) (fun _ => rfl)).squeeze S1x128 squeezes_S1x1x128_S1x128).view fs
      ((iBlk L hc).view.read (Elt F) (Wi d)) Finset.univ) x = Wi d j := by
  subst hoff
  refine (congrFun (Memref.read_squeeze_full sSlot inb_S1x128_S1x128_0_0 squeezes_S1x128_S128 _) x).trans ?_
  refine (congrFun (View.read_write_univ (v := sSlot.view) fs ((iBlk L hc).view.read (Elt F) (Wi d))) _).trans ?_
  obtain ⟨y, hy⟩ : ∃ y : S1x128.Idx, y = (fun | 0 => (0 : Fin 1) | 1 => (x 0 : Fin 128)) := ⟨_, rfl⟩
  have hx : Shape.reshapeEquiv (squeezes_S1x128_S128 : S1x128.Squeezes S128).numel_eq x = y := by
    refine Shape.reshapeEquiv_eq_of_rowMajor _ ((Shape.rowMajor_val_two y).trans ((?_ : _ = (x 0).val).trans (Shape.rowMajor_val_one x).symm))
    subst hy
    show 0 * 128 + (x 0).val = (x 0).val
    omega
  refine (congrArg ((iBlk L hc).view.read (Elt F) (Wi d)) hx).trans ((View.read_apply _ _).trans ?_)
  refine (cast_eq _ _).trans (congrArg (Wi d) ?_)
  funext a
  match a with
  | 0 => exact Subsingleton.elim (α := Fin 1) _ _
  | 1 =>
    refine Fin.ext ?_
    rw [h1]
    have h2 := congrFun (off2_at L hc) 1
    subst hy
    show (k0_off2 L 1) + 1 * (x 0).val = _
    rw [h2]; simp

/-- What a working task's copy out leaves in its 128 rows of the result: the table's rows that its words of the list name. -/
theorem block_at (hc : k0_cond1 L = 1#1) (hin : ∀ d (j : S1x1024.Idx), (Wi d j).toNat < 50000)
    (fr : Buf (Elt F) (rV.view.loc (V d (cV L) (jV L)))) (r : S128.Idx → Elt F .i32)
    (hr : ∀ (x : S128.Idx) (j : S1x1024.Idx), (j 1).val = 128 * (L 1).val + (x 0).val → r x = Wi d j)
    (hr' : ∀ x, (r x).toNat < S50000x128.size gathers_S50000x128_S128x128.axis) (hn : S128.numel = S128x128.size gathers_S50000x128_S128x128.axis')
    (p : S1024x128.Idx) (hp : p ∈ (oBlk L hc).view.set)
    (g : Buf (Elt F) (oLoc d)) (hg : (oBlk L hc).view.read (Elt F) g = rSlot.view.read (Elt F) (rSlot.view.write (Elt F) fr
      (SparseCore.gatherPayload gathers_S50000x128_S128x128 (tAll.view.read (Elt F) (Wt d)) (SparseCore.rows r hn hr')) Finset.univ)) :
    g p = gathered Wt Wi d p := by
  obtain ⟨x, -, rfl⟩ := Finset.mem_map.mp hp
  rw [View.read_write_univ] at hg
  refine ((View.read_apply _ _).trans (cast_eq _ _)).symm.trans ((congrFun hg x).trans ?_)
  have h0 : (((oBlk L hc).view.emb x) 0).val = 128 * (L 1).val + (x 0).val := by
    have h2 := congrFun (off13_at L hc) 0
    show (k0_off13 L 0#32 0) + 1 * (x 0).val = _
    rw [h2]; simp
  have h1 : (((oBlk L hc).view.emb x) 1).val = (x 1).val := by
    have h2 := congrFun (off13_at L hc) 1
    show (k0_off13 L 0#32 1) + 1 * (x 1).val = _
    rw [h2]; simp
  unfold SparseCore.gatherPayload gathered gatheredRows
  refine (View.read_apply _ _).trans ((cast_eq _ _).trans (congrArg (Wt d) ?_))
  funext a
  match a with
  | 0 =>
    refine Fin.ext ?_
    have e1 := congrArg Fin.val (Shape.Gathers.idx_axis gathers_S50000x128_S128x128 (SparseCore.rows r hn hr') x)
    obtain ⟨y, hy⟩ : ∃ y : S128.Idx, y = (fun | 0 => (x 0 : Fin 128)) := ⟨_, rfl⟩
    have e2 : (Shape.rowMajor S128).symm ((x 0).cast hn.symm) = y := by
      refine (Equiv.symm_apply_eq _).mpr (Fin.ext (Eq.trans ?_ (Shape.rowMajor_val_one y).symm))
      subst hy; rfl
    have e3 := hr ((Shape.rowMajor S128).symm ((x 0).cast hn.symm)) (ix2 (0 : Fin 1) (((oBlk L hc).view.emb x) 0))
      (h0.trans (by rw [e2, hy]))
    show 0 + 1 * (gathers_S50000x128_S128x128.idx (SparseCore.rows r hn hr') x 0).val = (Wi d (ix2 (0 : Fin 1) (((oBlk L hc).view.emb x) 0))).toNat % 50000
    rw [Nat.mod_eq_of_lt (hin d _), ← e3, Nat.zero_add, Nat.one_mul]
    exact e1
  | 1 =>
    refine Fin.ext ?_
    have e1 := Shape.Gathers.idx_of_ne gathers_S50000x128_S128x128 (SparseCore.rows r hn hr') x 1 (by decide)
    show 0 + 1 * (gathers_S50000x128_S128x128.idx (SparseCore.rows r hn hr') x 1).val = (((oBlk L hc).view.emb x) 1).val
    rw [h1, Nat.zero_add, Nat.one_mul]
    exact e1

end Tile

end Cert.Proof.RunKernelIdeal

end
-- ==== Proof.KernelIdeal.Tile.lean ====
/-
  One vector subcore's task of the SparseCore call. The first eight subcores of SparseCore 0 each copy their 128 words of
  the index list in, stream the 128 rows of the paired table those words name into their memory, and copy them out to their
  128 rows of the result (`tile_active`); every other subcore does nothing (`tile_idle`).
-/
module

public import proofs.«01_k».proof.Proof.KernelIdeal.TaskFacts

@[expose] public section

noncomputable section

namespace Cert.Proof.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

section Tile

variable [FloatOps F] [Named F]
variable (Wt : (d : Dev nD) → Buf (Elt F) (tLoc d)) (Wi : (d : Dev nD) → Buf (Elt F) (iLoc d)) (Wo : (d : Dev nD) → Buf (Elt F) (oLoc d))
variable (d : Dev nD) (L : grid0.Coords)

set_option maxHeartbeats 4000000 in
theorem tile_active (i : Fin 8) (hi : (L 1).val = i.val) (hc : k0_cond1 L = 1#1) (hin : ∀ d (j : S1x1024.Idx), (Wi d j).toNat < 50000)
    (O : CellTallies nD τ sig (HIx 1)) (W : Waits sig (HIx 1)) (fs : Buf (Elt F) (sV.view.loc (V d (cV L) (jV L)))) (fr : Buf (Elt F) (rV.view.loc (V d (cV L) (jV L)))) (fo : Buf (Elt F) (oLoc d)) :
    tileHeld Wt Wi d L i hc O W fs fr fo
      ⊢ wp frame (wpE (defs₀ (F := F)) 𝒱₀ (V d (cV L) (jV L)) none) Set.univ (taskOf (F := F) L) fun _ => tileDone Wt Wi d L i hc O W := by
  have h2 : k0_off2 L = ![0, 128 * i.val] := hi ▸ off2_at L hc
  have h8 : k0_off8 L 0#32 = ![0, 128 * i.val] := hi ▸ off8_at L hc
  have h13 : k0_off13 L 0#32 = ![128 * i.val, 0] := hi ▸ off13_at L hc
  have h33 : k0_off33 L 0#32 = ![128 * i.val, 0] := hi ▸ off33_at L hc
  haveI : ClosedOff (k0_off2 L) := ⟨_, h2⟩
  haveI : ClosedOff (k0_off8 L 0#32) := ⟨_, h8⟩
  haveI : ClosedOff (k0_off13 L 0#32) := ⟨_, h13⟩
  haveI : ClosedOff (k0_off33 L 0#32) := ⟨_, h33⟩
  unfold taskOf
  simp only [cc0_gather_kernel_eq_skeleton]; unfold cc0_gather_kernel_skel
  simp only [dif_pos hc, count_at L hc, k0_part5_eq_skeleton, k0_part6_eq_skeleton]
  unfold k0_part5_skel k0_part6_skel
  simp only [dif_pos (cond2_yes L hc), for_one _ _ _ _ (trips1 L hc), for_none _ _ _ _ (trips2 L), bind_assoc, pure_bind, wordsAt, number_at L hc, select_yes]
  unfold k0_t1_body
  simp only [k0_part1_eq_skeleton, k0_part2_eq_skeleton]
  unfold k0_part1_skel k0_part2_skel
  simp only [dif_neg (cond3_no L hc _), dif_pos (cond4_yes L hc _), dif_pos (cond7_yes L hc _), dif_neg (cond9_no L hc _), bind_assoc, pure_bind, wordsAt, number_at L hc, select_yes, select_no, ne_self, ite_self]
  simp only [dite_eq_ite, ite_self, dif_pos (cond18_yes L hc)]
  have k1 := fun k => chk1_ok L k hc
  have k2 := chk2_ok L
  have k3 := chk3_ok L
  have k7 := chk7_ok L
  have k8 := chk8_ok L
  unfold tileHeld
  iintro ⟨#Hmw, Hi, Ht, Ho, Hs, Hr, HsemI, HsemO, HsemG, HO⟩
  sl_exec (disch := first | exact k1 _ | exact k2 _ | exact k3 _ | exact k7 | exact k8)
  have hl := fun (x : S128.Idx) (j : S1x1024.Idx) h1 => list_at Wi d L hc k0_off1 (by decide) (k0_off1_inb L hc (cond2_yes L hc)) fs x j h1
  have hin' : ∀ x : S128.Idx, (sList.view.read (Elt F) (View.write (Elt F)
      ((sV.slice (Rect.unit (s := S2x1x128) k0_off1 S1x1x128.size (k0_off1_inb L hc (cond2_yes L hc))) (fun _ => rfl)).squeeze S1x128 squeezes_S1x1x128_S1x128).view fs
      ((iBlk L hc).view.read (Elt F) (Wi d)) Finset.univ) x).toNat < S50000x128.size gathers_S50000x128_S128x128.axis := fun x => by
    have hx : 128 * (L 1).val + (x 0).val < 1024 := by
      have h1 := ((cond1_iff L).mp hc).2
      have h2 : (x 0).val < 128 := (x 0).isLt
      omega
    rw [hl x (ix2 (0 : Fin 1) ⟨128 * (L 1).val + (x 0).val, hx⟩) rfl]
    exact hin d _
  icases ((window_split (V d (cV L) (jV L)) tAll (tq i) (Wt d)).1) $$ Ht with ⟨Hts, Htr⟩
  icases ((window_split (V d (cV L) (jV L)) sList fullShare _).1) $$ Hs with ⟨Hss, Hsr⟩
  icases ((window_split (V d (cV L) (jV L)) rSlot fullShare fr).1) $$ Hr with ⟨Hrs, Hrr⟩
  have hN : ∀ h : S50000x128.Gathers 0 S128x128, ∑ j, (rSlot.slice (S128x128.rowRect h.axis' j) (S128x128.stride_rowRect h.axis' j)).view.dmaCredit
      = rSlot.view.dmaCredit := by decide
  iapply (SparseCore.wp_indirectGatherLocal countersEmb 𝒱₀ (V d (cV L) (jV L)) none (src := tAll) (dst := rSlot) (offs := sList) (hg := gathers_S50000x128_S128x128) (default : HIx 1)
      rSlot.view.dmaCredit (hN _) (by decide) hin') $$ [Hts Hrs Hss HsemG]
  · isplitl [Hts]; · iexact Hts
    isplitl [Hrs]; · iexact Hrs
    isplitl [Hss]; · iexact Hss
    iexact HsemG
  iintro Hfl
  sl_exec
  iapply (Transfers.wp_waitLocalO countersEmb 𝒱₀ (V d (cV L) (jV L)) none (srcw := tAll) (dstw := rSlot) (hsrc := View.wordExact_bits rfl) (hdst := (View.wordExact_bits rfl).reshape _ _) (default : HIx 1) (rfl : rSlot.view.dmaCredit = _)) $$ [Hfl HO]
  · isplitl [Hfl]; · iexact Hfl
    isplitl [HO]; · iexact HO
    iapply (Transfers.MayWaits.elim (SemLoc.dma cc0_scoped4.sem)) $$ Hmw
  iintro ⟨⟨Hrs, Hts, Hss⟩, HsemG, HO⟩
  ihave Ht := (window_split (V d (cV L) (jV L)) tAll (tq i) (Wt d)).2 $$ [Hts Htr]; · isplitl [Hts] <;> iassumption
  ihave Hs := (window_split (V d (cV L) (jV L)) sList fullShare _).2 $$ [Hss Hsr]
  · isplitl [Hss]; · iexact Hss
    iexact Hsr
  ihave Hr := (window_join (V d (cV L) (jV L)) rSlot fullShare fr _) $$ [Hrs Hrr]; · isplitl [Hrs] <;> iassumption
  sl_exec (disch := first | exact k1 _ | exact k2 _ | exact k3 _ | exact k7 | exact k8)
  sl_step
  unfold tileDone
  isplitl [Hi]; · iexact Hi
  isplitl [Ht]; · iexact Ht
  isplitl [Ho]
  · iapply (Entails.of_eq (pointsTo_congr fun p hp => block_at Wt Wi d L hc hin fr _ hl hin' rfl p hp _ (View.read_writes_whole _ _ _))) $$ Ho
  isplitl [Hs]; · iexists _; iexact Hs
  isplitl [Hr]; · iexists _; iexact Hr
  isplitl [HsemI]; · iexact HsemI
  isplitl [HsemO]; · iexact HsemO
  isplitl [HsemG]; · iexact HsemG
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.RunKernelIdeal

end
-- ==== Proof.KernelIdeal.Task.lean ====
/-
  The SparseCore call's obligations: every vector subcore runs its task from what its sequencer hands it and brings it
  back done (`tileObl`); what the call is given splits into the tasks' parts, and the parts join to what it leaves (`vecSplit`).
-/
module

public import proofs.«01_k».proof.Proof.KernelIdeal.Tile

@[expose] public section

noncomputable section

namespace Cert.Proof.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

section Task

variable [FloatOps F] [Named F]
variable (Wt : (d : Dev nD) → Buf (Elt F) (tLoc d)) (Wi : (d : Dev nD) → Buf (Elt F) (iLoc d)) (Wo : (d : Dev nD) → Buf (Elt F) (oLoc d))
variable (d : Dev nD) (L : grid0.Coords)

/-- A subcore with no block does nothing. -/
theorem tile_idle (hc : ¬ k0_cond1 L = 1#1) (R : sProp 𝕄) :
    R ⊢ wp frame (wpE (defs₀ (F := F)) 𝒱₀ (V d (cV L) (jV L)) none) Set.univ (taskOf (F := F) L) fun _ => R := by
  unfold taskOf
  simp only [cc0_gather_kernel_eq_skeleton]; unfold cc0_gather_kernel_skel
  simp only [dif_neg hc]
  iintro H
  sl_exec
  sl_step
  iexact H

/-! ## A subcore's own cells and buffers -/

abbrev cellI (d : Dev nD) (c : Fin τ.nSC) (i : Fin τ.nSub) : GSem nD τ sig := (V d c i, .dma semI)
abbrev cellO (d : Dev nD) (c : Fin τ.nSC) (i : Fin τ.nSub) : GSem nD τ sig := (V d c i, .dma semO)
abbrev cellG (d : Dev nD) (c : Fin τ.nSC) (i : Fin τ.nSub) : GSem nD τ sig := (V d c i, .dma semG)

/-- The three completion semaphores a task uses are among its subcore's own. -/
theorem ownSems0_V :
    (ownSems0 (V d (cV L) (jV L)) : sProp 𝕄)
      = iprop(semVal (cellI d (cV L) (jV L)) 0 ∗ semVal (cellO d (cV L) (jV L)) 0 ∗ semVal (cellG d (cV L) (jV L)) 0
          ∗ bigSep ((((ownCells (V d (cV L) (jV L))).erase (cellI d (cV L) (jV L))).erase (cellO d (cV L) (jV L))).erase (cellG d (cV L) (jV L))) fun g => semVal g 0) := by
  have hIO : cellO d (cV L) (jV L) ≠ cellI d (cV L) (jV L) := fun e => absurd (congrArg Prod.snd e) (show (SemLoc.dma semO : SemLoc sig) ≠ .dma semI by decide)
  have hOG : cellG d (cV L) (jV L) ≠ cellO d (cV L) (jV L) := fun e => absurd (congrArg Prod.snd e) (show (SemLoc.dma semG : SemLoc sig) ≠ .dma semO by decide)
  have hIG : cellG d (cV L) (jV L) ≠ cellI d (cV L) (jV L) := fun e => absurd (congrArg Prod.snd e) (show (SemLoc.dma semG : SemLoc sig) ≠ .dma semI by decide)
  have hI : cellI d (cV L) (jV L) ∈ ownCells (V d (cV L) (jV L)) := (mem_ownCells (g := cellI d (cV L) (jV L))).mpr ⟨rfl, by
    show (SemLoc.dma semI : SemLoc sig).isScoped .scVector = true; decide⟩
  have hO : cellO d (cV L) (jV L) ∈ ownCells (V d (cV L) (jV L)) := (mem_ownCells (g := cellO d (cV L) (jV L))).mpr ⟨rfl, by
    show (SemLoc.dma semO : SemLoc sig).isScoped .scVector = true; decide⟩
  have hG : cellG d (cV L) (jV L) ∈ ownCells (V d (cV L) (jV L)) := (mem_ownCells (g := cellG d (cV L) (jV L))).mpr ⟨rfl, by
    show (SemLoc.dma semG : SemLoc sig).isScoped .scVector = true; decide⟩
  unfold SparseCore.Cfg.ownSems0
  rw [SparseCore.bigSep_erase' hI, SparseCore.bigSep_erase' (Finset.mem_erase.mpr ⟨hIO, hO⟩),
    SparseCore.bigSep_erase' (Finset.mem_erase.mpr ⟨hOG, Finset.mem_erase.mpr ⟨hIG, hG⟩⟩)]

/-- Its list buffer and its row buffer are among the subcore's own. -/
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## A task's windows are its parts -/

theorem set_iBlk (hc : k0_cond1 L = 1#1) (i : Fin 8) (hi : (L 1).val = i.val) : (iBlk L hc).view.set = iRowSet i := by
  have h2 : k0_off2 L = ![0, 128 * i.val] := hi ▸ off2_at L hc
  have e : Rect.unit (s := S1x1024) (k0_off2 L) S1x128.size (k0_off2_inb L hc (cond2_yes L hc)) = irow i := by
    unfold irow Rect.part Rect.block
    congr 1 <;> funext a
    · rw [h2]
      match a with
      | 0 => simp [Shape.partIx, Shape.partSize]
      | 1 => simp [Shape.partIx, Shape.partSize, Nat.mul_comm]
    · match a with
      | 0 => simp [Shape.partSize]
      | 1 => simp [Shape.partSize]
  exact (View.set_slice (v := iV.view) _).trans ((congrArg (fun r : Rect S1x1024 => r.set.map iV.view.emb) e).trans (View.set_slice (v := iV.view) _).symm)

theorem set_oBlk (hc : k0_cond1 L = 1#1) (i : Fin 8) (hi : (L 1).val = i.val) : (oBlk L hc).view.set = oRowSet i := by
  have h2 : k0_off13 L 0#32 = ![128 * i.val, 0] := hi ▸ off13_at L hc
  have e : Rect.unit (s := S1024x128) (k0_off13 L 0#32) S128x128.size (off13_inb L hc) = orow i := by
    unfold orow Rect.part Rect.block
    congr 1 <;> funext a
    · rw [h2]
      match a with
      | 0 => simp [Shape.partIx, Shape.partSize, Nat.mul_comm]
      | 1 => simp [Shape.partIx, Shape.partSize]
    · match a with
      | 0 => simp [Shape.partSize]
      | 1 => simp [Shape.partSize]
  exact (View.set_slice (v := oV.view) _).trans ((congrArg (fun r : Rect S1024x128 => r.set.map oV.view.emb) e).trans (View.set_slice (v := oV.view) _).symm)

/-- What a task works with besides what it is handed. -/
abbrev tileKit (O : CellTallies nD τ sig (HIx 1)) (W : Waits sig (HIx 1)) : sProp 𝕄 :=
  iprop(scopedBufs (V d (cV L) (jV L)) ∗ scopedSems0 (V d (cV L) (jV L)) ∗ owes (V d (cV L) (jV L)) O W)

/-- A working subcore's task, from what it is handed to what it brings back. -/
theorem task_active (hF : (K (F := F)).Facts) (hin : ∀ d (j : S1x1024.Idx), (Wi d j).toNat < 50000) (i : Fin 8) (hi : (L 1).val = i.val) (hc : k0_cond1 L = 1#1)
    (O : CellTallies nD τ sig (HIx 1)) (W : Waits sig (HIx 1)) (hO : ∀ g, O g none = 0) :
    iprop(levAts (K (F := F)).L (K (F := F)).lev ∗ given Wt Wi d i (Wo d) ∗ tileKit d L O W)
      ⊢ wp frame (wpE (defs₀ (F := F)) 𝒱₀ (V d (cV L) (jV L)) none) Set.univ (taskOf (F := F) L)
          fun _ => iprop(given Wt Wi d i (gathered Wt Wi d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileKit given
  rw [(K (F := F)).scopedBufs_V hF d (cV L) (jV L), SparseCore.Cfg.scopedSems0_V (Val := Elt F) d (cV L) (jV L), ownSems0_V, ownBufs_V]
  iintro ⟨#Hlv, ⟨Ht, Hi, Ho⟩, ⟨⟨%fs, Hs⟩, ⟨%fr, Hr⟩, Hbufs⟩, ⟨HsemI, HsemO, HsemG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hw := (tile_active Wt Wi d L i hi hc hin O W fs fr (Wo d)) $$ [Ht Hi Ho Hs Hr HsemI HsemO HsemG HO]
  · unfold tileHeld
    rw [set_iBlk L hc i hi, set_oBlk L hc i hi]
    isplitr; · iexact Hmw
    isplitl [Hi]; · iexact Hi
    isplitl [Ht]; · iexact Ht
    isplitl [Ho]; · iexact Ho
    isplitl [Hs]; · iexact Hs
    isplitl [Hr]; · iexact Hr
    isplitl [HsemI]; · iexact HsemI
    isplitl [HsemO]; · iexact HsemO
    isplitl [HsemG]; · iexact HsemG
    iexact HO
  iapply (wp_wand frame _ _) $$ Hw
  iintro %_ Hd
  unfold tileDone
  rw [set_iBlk L hc i hi, set_oBlk L hc i hi]
  icases Hd with ⟨Hi, Ht, Ho, Hs, Hr, HsemI, HsemO, HsemG, HO⟩
  isplitl [Hi Ht Ho]
  · isplitl [Ht]; · iexact Ht
    isplitl [Hi]; · iexact Hi
    iexact Ho
  isplitl [Hs Hr Hbufs]
  · isplitl [Hs]; · iexact Hs
    isplitl [Hr]; · iexact Hr
    iexact Hbufs
  isplitl [HsemI HsemO HsemG Hsems]
  · isplitl [HsemI]; · iexact HsemI
    isplitl [HsemO]; · iexact HsemO
    isplitl [HsemG]; · iexact HsemG
    iexact Hsems
  iexact HO

/-- Every subcore's task, from what it is handed to what it brings back. -/
theorem tile_body (hF : (K (F := F)).Facts) (hin : ∀ d (j : S1x1024.Idx), (Wi d j).toNat < 50000)
    (O : CellTallies nD τ sig (HIx 1)) (W : Waits sig (HIx 1)) (hO : ∀ g, O g none = 0) :
    iprop(levAts (K (F := F)).L (K (F := F)).lev ∗ tileHas Wt Wi d (Wo d) (L 0).val (L 1).val ∗ tileKit d L O W)
      ⊢ wp frame (wpE (defs₀ (F := F)) 𝒱₀ (V d (cV L) (jV L)) none) Set.univ (taskOf (F := F) L)
          fun _ => iprop(tileHas Wt Wi d (gathered Wt Wi d) (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  rcases Decidable.em ((L 0).val = 0 ∧ (L 1).val < 8) with hL | hL
  · unfold tileHas
    rw [dif_pos hL, dif_pos hL]
    exact task_active Wt Wi Wo d L hF hin ⟨(L 1).val, hL.2⟩ rfl ((cond1_iff L).mpr hL) O W hO
  · unfold tileHas
    rw [dif_neg hL, dif_neg hL]
    have h : iprop(levAts (K (F := F)).L (K (F := F)).lev ∗ emp ∗ tileKit (F := F) d L O W)
        ⊢ (iprop(emp ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
      iintro ⟨-, He, Hb, Hs, HO⟩
      isplitl [He]; · iexact He
      isplitl [Hb]; · iexact Hb
      isplitl [Hs]; · iexact Hs
      iexists W; isplitr
      · ipureintro; exact fun p hp => .inl hp
      · iexact HO
    exact h.trans (tile_idle d L (fun h => hL ((cond1_iff L).mp h)) _)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s) tV (Memref.isWhole_whole _) iV (Memref.isWhole_whole _) oV (Memref.isWhole_whole _)
            sV (Memref.isWhole_whole _) cc0_scoped1 rV (Memref.isWhole_whole _) cc0_scoped3 cc0_scoped4 cc0_scoped5) ⟨⟩ c s := rfl

theorem taskOf_eq (c : Fin (grid0.bound 0)) (s : Fin (grid0.bound 1)) :
    taskOf (F := F) (coordsV c s) = cc0_gather_kernel (coordsV c s) tV (Memref.isWhole_whole _) iV (Memref.isWhole_whole _) oV (Memref.isWhole_whole _)
            sV (Memref.isWhole_whole _) cc0_scoped1 rV (Memref.isWhole_whole _) cc0_scoped3 cc0_scoped4 cc0_scoped5 := by
  unfold taskOf; rfl

/-- The waits a task records are its own transfers', which the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_pre {A B C : sProp 𝕄} : iprop(A ∗ emp ∗ B ∗ C) ⊢ iprop(A ∗ B ∗ C) := by
  iintro ⟨HA, -, HB, HC⟩
  isplitl [HA]; · iexact HA
  isplitl [HB]; · iexact HB
  iexact HC

set_option maxRecDepth 16384 in
/-- What the launch asks of every vector subcore. -/
theorem tileObl (hF : (K (F := F)).Facts) (hin : ∀ d (j : S1x1024.Idx), (Wi d j).toNat < 50000) :
    (K (F := F)).TileObl (D (F := F)) 𝒱 (P Wt Wi Wo) v₀ 0 := by
  intro d c i O W hO _ _
  simp only [show (P Wt Wi Wo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [← taskOf_eq]
  exact (tile_pre.trans (tile_body Wt Wi Wo d (coordsV ⟨_, hci.1⟩ ⟨_, hci.2⟩) hF hin O W hO)).trans (wp_mono frame _ _ fun _ => obl_post)

end Task

end Cert.Proof.RunKernelIdeal

end
-- ==== Proof.KernelIdeal.Deal.lean ====
/-
  What the SparseCore call is given is its tasks' parts (`cores_eq`), so that giving the parts out and taking them back
  done is the call (`vecSplit`).
-/
module

public import proofs.«01_k».proof.Proof.KernelIdeal.Task

@[expose] public section

noncomputable section

namespace Cert.Proof.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

section Deal

variable (Wt : (d : Dev nD) → Buf (Elt F) (tLoc d)) (Wi : (d : Dev nD) → Buf (Elt F) (iLoc d)) (Wo : (d : Dev nD) → Buf (Elt F) (oLoc d))

theorem iRowSet_eq (i : Fin 8) : iRowSet i = (irow i).set := by
  show ((View.whole (main_v1_scv : Ref sig .scVector)).slice (irow i)).set = _
  rw [View.set_slice]; exact Finset.map_refl
theorem oRowSet_eq (i : Fin 8) : oRowSet i = (orow i).set := by
  show ((View.whole (main_v5_scv : Ref sig .scVector)).slice (orow i)).set = _
  rw [View.set_slice]; exact Finset.map_refl
theorem irows_disjoint : ∀ i ∈ (Finset.univ : Finset (Fin 8)), ∀ j ∈ (Finset.univ : Finset (Fin 8)), i ≠ j → Disjoint (iRowSet i) (iRowSet j) :=
  fun i _ j _ h => by rw [iRowSet_eq, iRowSet_eq]; exact Rect.part_disjoint idiv h
theorem orows_disjoint : ∀ i ∈ (Finset.univ : Finset (Fin 8)), ∀ j ∈ (Finset.univ : Finset (Fin 8)), i ≠ j → Disjoint (oRowSet i) (oRowSet j) :=
  fun i _ j _ h => by rw [oRowSet_eq, oRowSet_eq]; exact Rect.part_disjoint odiv h
theorem irows_cover : (Finset.univ : Finset (Fin 8)).biUnion iRowSet = Finset.univ :=
  (Finset.biUnion_congr rfl fun i _ => iRowSet_eq i).trans (Rect.biUnion_part idiv)
theorem orows_cover : (Finset.univ : Finset (Fin 8)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 8 => iLoc d ↦[iRowSet i]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun i : Fin 8 => oLoc d ↦[oRowSet i]{fullShare} f := by
  rw [← pointsTo_biUnion Finset.univ (ℓ := oLoc d) oRowSet orows_disjoint, orows_cover]; try rfl
theorem tPts_shares (d : Dev nD) (f : Buf (Elt F) (tLoc d)) :
    (tLoc d ↦{fullShare} f : sProp 𝕄) = bigSep Finset.univ fun i : Fin 8 => tLoc d ↦{tq i} f :=
  pointsTo_piecesOf Finset.univ f (by decide) fullShare

theorem bigSep_none {I : Type} (s : Finset I) : (bigSep s fun _ => iprop(emp)) = (iprop(emp) : sProp 𝕄) := bigSep_emp_const s

/-- Something for each of the first eight of sixteen is something for each of eight. -/
theorem first_eight (Φ : Fin 8 → sProp 𝕄) :
    (bigSep Finset.univ fun i : Fin 16 => if h : i.val < 8 then Φ ⟨i.val, h⟩ else iprop(emp)) = bigSep Finset.univ Φ := by
  rw [bigSep_univ_equiv (finSumFinEquiv (m := 8) (n := 8)), bigSep_univ_sum]
  have h1 : (bigSep Finset.univ fun a : Fin 8 => if h : (finSumFinEquiv (Sum.inl a : Fin 8 ⊕ Fin 8)).val < 8 then Φ ⟨_, h⟩ else iprop(emp)) = bigSep Finset.univ Φ :=
    bigSep_congr fun i _ => (dif_pos (show (finSumFinEquiv (Sum.inl i : Fin 8 ⊕ Fin 8)).val < 8 from i.isLt)).trans (congrArg Φ (Fin.ext rfl))
  have h2 : (bigSep Finset.univ fun a : Fin 8 => if h : (finSumFinEquiv (Sum.inr a : Fin 8 ⊕ Fin 8)).val < 8 then Φ ⟨_, h⟩ else iprop(emp)) = (iprop(emp) : sProp 𝕄) :=
    (bigSep_congr fun i _ => dif_neg (show ¬ (finSumFinEquiv (Sum.inr i : Fin 8 ⊕ Fin 8)).val < 8 from fun h => absurd h (Nat.not_lt.mpr (Nat.le_add_right 8 i.val)))).trans (bigSep_none _)
  rw [h1, h2]
  exact equiv_iff.mp sep_emp

/-- The tasks' parts are what the sequencer of core `c` has for them. -/
theorem cores_eq (d : Dev nD) (f : Buf (Elt F) (oLoc d)) (c : ℕ) :
    (bigSep Finset.univ fun i : Fin 16 => tileHas Wt Wi d f c i.val) = coreHas Wt Wi d f c := by
  unfold coreHas
  by_cases hc : c = 0
  · rw [if_pos hc]
    have e : ∀ i : Fin 16, tileHas Wt Wi d f c i.val = if h : i.val < 8 then given Wt Wi d ⟨i.val, h⟩ f else iprop(emp) := fun i => by
      unfold tileHas
      by_cases h : i.val < 8
      · rw [dif_pos ⟨hc, h⟩, dif_pos h]
      · rw [dif_neg (fun h' => h h'.2), dif_neg h]
    rw [bigSep_congr fun i _ => e i]
    refine (first_eight (fun i => given Wt Wi d i f)).trans ?_
    unfold given
    rw [bigSep_sep', bigSep_sep']
    unfold tPts iPts oPts
    rw [tPts_shares, iPts_rows, oPts_rows]
  · rw [if_neg hc, bigSep_congr fun i _ => (show tileHas Wt Wi d f c i.val = iprop(emp) from dif_neg fun h => hc h.1), bigSep_none]

theorem vecSplit : (K (F := F)).VecSplit' (P Wt Wi Wo) 0 := by
  intro d c
  show coreHas Wt Wi d (Wo d) c.val ⊢ |={Set.univ}=> iprop(
      (bigSep Finset.univ fun i : Fin 16 => tileHas Wt Wi d (Wo d) c.val i.val)
      ∗ ((bigSep Finset.univ fun i : Fin 16 => tileHas Wt Wi d (gathered Wt Wi d) c.val i.val) -∗ coreHas Wt Wi d (gathered Wt Wi d) c.val))
  rw [cores_eq, cores_eq]
  iintro H; imodintro
  isplitl [H]; · iexact H
  iintro H; iexact H

/-- What the call takes at its start, and what it brings back. -/
theorem st_eq (d : Dev nD) : (bigSep Finset.univ fun c : Fin ((K (F := F)).nCore 0) => (P Wt Wi Wo).st 0 d c) = iprop(tPts Wt d ∗ iPts Wi d ∗ oPts d (Wo d)) := by
  refine (bigSep_fin_two (fun c : Fin 2 => coreHas Wt Wi d (Wo d) c.val)).trans ?_
  exact equiv_iff.mp sep_emp
theorem dn_eq (d : Dev nD) : (bigSep Finset.univ fun c : Fin ((K (F := F)).nCore 0) => (P Wt Wi Wo).dn 0 d c) = iprop(tPts Wt d ∗ iPts Wi d ∗ oPts d (gathered Wt Wi d)) := by
  refine (bigSep_fin_two (fun c : Fin 2 => coreHas Wt Wi d (gathered Wt Wi d) c.val)).trans ?_
  exact equiv_iff.mp sep_emp

end Deal

end Cert.Proof.RunKernelIdeal

end
-- ==== Proof.KernelIdeal.Bodies.lean ====
/-
  The two TensorCore kernel bodies, run once each on whole buffers: what a step of the first pass leaves in its two
  carried columns (the running maximum and the running sum) and, at the last step, in the result; and what a step of
  the second pass leaves in its block.
-/
module

public import proofs.«01_k».proof.Proof.KernelIdeal.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.VecWindow
public import Idealize.ShloMosaic.Lib.Tactic.Stretches

@[expose] public section

noncomputable section

namespace Cert.Proof.RunKernelIdeal

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The upper and the lower half of a gathered row of 128 words. -/
abbrev hiHalf : Rect S1024x128 := Rect.unit (s := S1024x128) ![0, 64] S1024x64.size inb_S1024x128_S1024x64_0_64
abbrev loHalf : Rect S1024x128 := Rect.unit (s := S1024x128) ![0, 0] S1024x64.size inb_S1024x128_S1024x64_0_0

/-- The first pass at grid point `i`: the masked logits of its block of columns, -/
def maskedLogits (i : grid1.Coords) (w : Vec F S1024x128 .f32) (p : Vec F S1024x1 .i32) (W : Vec F S64x4096 .f32)
    (b : Vec F S1x4096 .f32) : FVec F S1024x4096 .bf16 :=
  k1_pay6 i p (View.ld w hiHalf) (View.ld w loHalf) W b

/-- the running maximum taken over them, -/
def newMax (i : grid1.Coords) (w : Vec F S1024x128 .f32) (p : Vec F S1024x1 .i32) (W : Vec F S64x4096 .f32)
    (b : Vec F S1x4096 .f32) (M : Vec F S1024x1 .f32) : FVec F S1024x1 .f32 :=
  k1_pay7 i p (View.ld w hiHalf) (View.ld w loHalf) W b M

/-- and the running sum, rescaled to the new maximum and extended by the block. -/
def newSum (i : grid1.Coords) (w : Vec F S1024x128 .f32) (p : Vec F S1024x1 .i32) (W : Vec F S64x4096 .f32)
    (b : Vec F S1x4096 .f32) (M S : Vec F S1024x1 .f32) : FVec F S1024x1 .f32 :=
  k1_pay1 (maskedLogits i w p W b) M (newMax i w p W b M) S

/-- The condition of the first pass's reset, as the body computes it from the grid coordinate. -/
abbrev atFirst (i : grid1.Coords) : BitVec 1 :=
  Scalar.cmpi .ne (Scalar.extui (Scalar.cmpi .eq (BitVec.ofNat 32 (i 0).val) 0#32)) 0#32

section Pass1

variable (c : Dev nD) (i : grid1.Coords)
  (arg1 : Memref sig .tc .vmem S1024x128 .f32) (harg1 : arg1.IsWhole) (arg2 : Memref sig .tc .vmem S1024x1 .i32) (harg2 : arg2.IsWhole)
  (arg3 : Memref sig .tc .vmem S64x4096 .f32) (harg3 : arg3.IsWhole) (arg4 : Memref sig .tc .vmem S1x4096 .f32) (harg4 : arg4.IsWhole)
  (arg5 : Memref sig .tc .vmem S1024x1 .f32) (harg5 : arg5.IsWhole) (arg6 : Memref sig .tc .vmem S1024x1 .f32) (harg6 : arg6.IsWhole)
  (arg7 : Memref sig .tc .vmem S1024x1 .f32) (harg7 : arg7.IsWhole)
  (w : Vec F S1024x128 .f32) (p : Vec F S1024x1 .i32) (W : Vec F S64x4096 .f32) (b : Vec F S1x4096 .f32) (o M S : Vec F S1024x1 .f32)

/-- The seven buffers of the first pass. -/
def held1 (o M S : Vec F S1024x1 .f32) : sProp 𝕄 :=
  iprop(owns (c : Thread nD τ) arg1 fullShare w ∗ owns (c : Thread nD τ) arg2 fullShare p ∗ owns (c : Thread nD τ) arg3 fullShare W
    ∗ owns (c : Thread nD τ) arg4 fullShare b ∗ owns (c : Thread nD τ) arg5 fullShare o ∗ owns (c : Thread nD τ) arg6 fullShare M
    ∗ owns (c : Thread nD τ) arg7 fullShare S)

/-- A step that is neither the first nor the last. -/
theorem pass1_middle (h1 : ¬atFirst i = 1#1) (h2 : ¬k1_cond2 i = 1#1) :
    held1 c arg1 arg2 arg3 arg4 arg5 arg6 arg7 w p W b o M S
      ⊢ wp frame (wpE (defs₀ (F := F)) 𝒱₀ c none) Set.univ
          (cc1__pass1_body i arg1 harg1 arg2 harg2 arg3 harg3 arg4 harg4 arg5 harg5 arg6 harg6 arg7 harg7)
          fun _ => held1 c arg1 arg2 arg3 arg4 arg5 arg6 arg7 w p W b o (k1_pay2 (newMax i w p W b M))
            (newSum i w p W b M S) := by
  simp only [cc1__pass1_body_eq_skeleton]; unfold cc1__pass1_body_skel
  unfold held1 owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  subst e1 e2 e3 e4 e5 e6 e7
  sl_exec (disch := first | exact h1 | exact h2)
  sl_step
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists _; isplitr; swap; · iexact H5
                  ipureintro; rfl
  isplitl [H6]
  · iexists _; isplitr; swap; · iexact H6
    ipureintro; (sl_open_run; rw [View.read_writes_full]; repeat rw [View.readCov_cons_toLoadRect]); (repeat rw [View.readAt_full]); rfl
  · iexists _; isplitr; swap; · iexact H7
    ipureintro; (sl_open_run; rw [View.read_writes_full]; repeat rw [View.readCov_cons_toLoadRect]); (repeat rw [View.readAt_full]); rfl

/-- The first step, which resets the carried columns. -/
theorem pass1_first (h1 : atFirst i = 1#1) (h2 : ¬k1_cond2 i = 1#1) :
    held1 c arg1 arg2 arg3 arg4 arg5 arg6 arg7 w p W b o M S
      ⊢ wp frame (wpE (defs₀ (F := F)) 𝒱₀ c none) Set.univ
          (cc1__pass1_body i arg1 harg1 arg2 harg2 arg3 harg3 arg4 harg4 arg5 harg5 arg6 harg6 arg7 harg7)
          fun _ => held1 c arg1 arg2 arg3 arg4 arg5 arg6 arg7 w p W b o (k1_pay2 (newMax i w p W b k1_pay4))
            (newSum i w p W b k1_pay4 k1_pay5) := by
  simp only [cc1__pass1_body_eq_skeleton]; unfold cc1__pass1_body_skel
  unfold held1 owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  subst e1 e2 e3 e4 e5 e6 e7
  sl_exec (disch := first | exact h1 | exact h2)
  sl_step
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists _; isplitr; swap; · iexact H5
                  ipureintro; rfl
  isplitl [H6]
  · iexists _; isplitr; swap; · iexact H6
    ipureintro; (sl_open_run; rw [View.read_writes_full]; repeat rw [View.readCov_cons_toLoadRect]); (repeat rw [View.readAt_full]); rfl
  · iexists _; isplitr; swap; · iexact H7
    ipureintro; (sl_open_run; rw [View.read_writes_full]; repeat rw [View.readCov_cons_toLoadRect]); (repeat rw [View.readAt_full]); rfl

/-- The last step, which also writes the result. -/
theorem pass1_last (h1 : ¬atFirst i = 1#1) (h2 : k1_cond2 i = 1#1) :
    held1 c arg1 arg2 arg3 arg4 arg5 arg6 arg7 w p W b o M S
      ⊢ wp frame (wpE (defs₀ (F := F)) 𝒱₀ c none) Set.univ
          (cc1__pass1_body i arg1 harg1 arg2 harg2 arg3 harg3 arg4 harg4 arg5 harg5 arg6 harg6 arg7 harg7)
          fun _ => held1 c arg1 arg2 arg3 arg4 arg5 arg6 arg7 w p W b (k1_pay3 (k1_pay2 (newMax i w p W b M)) (newSum i w p W b M S)) (k1_pay2 (newMax i w p W b M))
            (newSum i w p W b M S) := by
  simp only [cc1__pass1_body_eq_skeleton]; unfold cc1__pass1_body_skel
  unfold held1 owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  subst e1 e2 e3 e4 e5 e6 e7
  sl_exec (disch := first | exact h1 | exact h2)
  sl_step
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists _; isplitr; swap; · iexact H5
                  ipureintro; (sl_open_run; rw [View.read_writes_full]; repeat rw [View.readCov_cons_toLoadRect]); (repeat rw [View.readAt_full]); rfl
  isplitl [H6]
  · iexists _; isplitr; swap; · iexact H6
    ipureintro; (sl_open_run; rw [View.read_writes_full]; repeat rw [View.readCov_cons_toLoadRect]); (repeat rw [View.readAt_full]); rfl
  · iexists _; isplitr; swap; · iexact H7
    ipureintro; (sl_open_run; rw [View.read_writes_full]; repeat rw [View.readCov_cons_toLoadRect]); (repeat rw [View.readAt_full]); rfl

end Pass1

section Pass2

variable (c : Dev nD) (i : grid2.Coords)
  (arg1 : Memref sig .tc .vmem S1024x128 .f32) (harg1 : arg1.IsWhole) (arg2 : Memref sig .tc .vmem S1024x1 .i32) (harg2 : arg2.IsWhole)
  (arg3 : Memref sig .tc .vmem S64x4096 .f32) (harg3 : arg3.IsWhole) (arg4 : Memref sig .tc .vmem S1x4096 .f32) (harg4 : arg4.IsWhole)
  (arg5 : Memref sig .tc .vmem S1024x1 .f32) (harg5 : arg5.IsWhole) (arg6 : Memref sig .tc .vmem S1024x4096 .bf16) (harg6 : arg6.IsWhole)
  (w : Vec F S1024x128 .f32) (p : Vec F S1024x1 .i32) (W : Vec F S64x4096 .f32) (b : Vec F S1x4096 .f32) (l : Vec F S1024x1 .f32)

/-- The six buffers of the second pass. -/
def held2 (o : Vec F S1024x4096 .bf16) : sProp 𝕄 :=
  iprop(owns (c : Thread nD τ) arg1 fullShare w ∗ owns (c : Thread nD τ) arg2 fullShare p ∗ owns (c : Thread nD τ) arg3 fullShare W
    ∗ owns (c : Thread nD τ) arg4 fullShare b ∗ owns (c : Thread nD τ) arg5 fullShare l ∗ owns (c : Thread nD τ) arg6 fullShare o)

/-- What a step of the second pass leaves in its block: the logits less their rows' log-sums. -/
def blockOut (w : Vec F S1024x128 .f32) (p : Vec F S1024x1 .i32) (W : Vec F S64x4096 .f32) (b : Vec F S1x4096 .f32)
    (l : Vec F S1024x1 .f32) : FVec F S1024x4096 .bf16 :=
  k2_pay1 p (View.ld w hiHalf) (View.ld w loHalf) b W l

/-- A step of the second pass. -/
theorem pass2_step (o : Vec F S1024x4096 .bf16) :
    held2 c arg1 arg2 arg3 arg4 arg5 arg6 w p W b l o
      ⊢ wp frame (wpE (defs₀ (F := F)) 𝒱₀ c none) Set.univ
          (cc2__pass2_body i arg1 harg1 arg2 harg2 arg3 harg3 arg4 harg4 arg5 harg5 arg6 harg6)
          fun _ => held2 c arg1 arg2 arg3 arg4 arg5 arg6 w p W b l (blockOut w p W b l) := by
  simp only [cc2__pass2_body_eq_skeleton]; unfold cc2__pass2_body_skel
  unfold held2 owns
  iintro ⟨⟨%f1, %e1, H1⟩, ⟨%f2, %e2, H2⟩, ⟨%f3, %e3, H3⟩, ⟨%f4, %e4, H4⟩, ⟨%f5, %e5, H5⟩, ⟨%f6, %e6, H6⟩⟩
  subst e1 e2 e3 e4 e5 e6
  sl_exec
  sl_step
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  · iexists _; isplitr; swap; · iexact H6
    ipureintro; (sl_open_run; rw [View.read_writes_full]; repeat rw [View.readCov_cons_toLoadRect]); (repeat rw [View.readAt_full]); rfl

end Pass2

end Cert.Proof.RunKernelIdeal
-- ==== Proof.KernelIdeal.Pass1.lean ====
/-
  The first TensorCore pass as a relation: what its carried columns may hold after each step, what its result may hold
  after the last, whatever the staging buffers held beyond the edge of the clipped arrays; and that the body's steps
  keep the relation.
-/
module

public import proofs.«01_k».proof.Proof.KernelIdeal.Bodies
public import proofs.«01_k».proof.Proof.Shared.Region

@[expose] public section

noncomputable section

namespace Cert.Proof.RunKernelIdeal

open Cert.KernelIdeal Cert.KernelIdeal.Gen Cert.Proof.Shared
open Idealize.ShloMosaic Idealize.ShloMosaic.TcCoe Idealize.ShloMosaic.Tactic
open Idealize.ShloMosaic.SparseCore.Cfg (HIx)
open Idealize.ShloMosaic.Pipeline (RDat arrRef)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The waits a core may have recorded once the SparseCore call has returned: those below the call's last level. -/
def waits (c : Dev nD) : Set (SemLoc sig × HIx 1) := {p | (K (F := F)).lev (SparseCore.T c, p.1) p.2 ≤ 8}

/-- What a staging buffer may hold once the fetch at point `t` has landed in it: the array's block where the block
    lies in the array, anything beyond. -/
def Staged {g : Pipeline.Grid} (win : Pipeline.Window sig g) (c : Dev nD) (t : Fin g.N)
    (A : Buf (Elt F) (win.arr.view.loc (c.tc : Thread nD τ))) (X : win.block.Idx → Elt F win.elt) : Prop :=
  ∃ d, X = win.fill (g.coords t) d ((win.blk t).view.read (Elt F) A)

section

variable (c : Dev nD) (V : Contents nD τ sig (Elt F) c)

/-- The carried maximum after the step at point `t` that finds it at `M`: the first step starts it afresh, -/
def nextMax (t : Fin grid1.N) (w : Vec F S1024x128 .f32) (p : Vec F S1024x1 .i32) (W : Vec F S64x4096 .f32)
    (b : Vec F S1x4096 .f32) (M : Vec F S1024x1 .f32) : FVec F S1024x1 .f32 :=
  k1_pay2 (newMax (grid1.coords t) w p W b (if t.val = 0 then k1_pay4 else M))

/-- and the carried sum. -/
def nextSum (t : Fin grid1.N) (w : Vec F S1024x128 .f32) (p : Vec F S1024x1 .i32) (W : Vec F S64x4096 .f32)
    (b : Vec F S1x4096 .f32) (M S : Vec F S1024x1 .f32) : FVec F S1024x1 .f32 :=
  newSum (grid1.coords t) w p W b (if t.val = 0 then k1_pay4 else M) (if t.val = 0 then k1_pay5 else S)

/-- What the two carried columns may hold before point `n`. -/
def Carried : ℕ → Vec F S1024x1 .f32 → Vec F S1024x1 .f32 → Prop
  | 0, _, _ => True
  | n + 1, M', S' => ∃ (h : n < grid1.N) (M S : Vec F S1024x1 .f32) (w : Vec F S1024x128 .f32) (p : Vec F S1024x1 .i32)
      (W : Vec F S64x4096 .f32) (b : Vec F S1x4096 .f32), Carried n M S
        ∧ Staged win1_0 c ⟨n, h⟩ (V main_v5) w ∧ Staged win1_1 c ⟨n, h⟩ (V main_v3) p
        ∧ Staged win1_2 c ⟨n, h⟩ (V main_v7) W ∧ Staged win1_3 c ⟨n, h⟩ (V main_v6) b
        ∧ M' = nextMax ⟨n, h⟩ w p W b M ∧ S' = nextSum ⟨n, h⟩ w p W b M S

/-- What the result may be: the log-sum of columns carried through every point. -/
def LogSum (X : Vec F S1024x1 .f32) : Prop := ∃ M S, Carried c V 25 M S ∧ X = k1_pay3 M S

/-- The scoped buffers the pass does not touch: with the two columns back, at anything, they are all of the core's
    scoped buffers but the staging ones. -/
def others1 : sProp 𝕄 :=
  iprop(∀ M S, (owns (c : Thread nD τ) (Memref.whole cc1_scratch0) fullShare M ∗ owns (c : Thread nD τ) (Memref.whole cc1_scratch1) fullShare S)
    -∗ Pipeline.scopedRest spec1 c)

theorem scopedRest_open1 : Pipeline.scopedRest spec1 c ⊢ (iprop(∃ M S : Vec F S1024x1 .f32,
    owns (c : Thread nD τ) (Memref.whole cc1_scratch0) fullShare M ∗ owns (c : Thread nD τ) (Memref.whole cc1_scratch1) fullShare S
      ∗ others1 c) : sProp 𝕄) := by
  unfold others1
  rw [scopedRest1_eq]
  simp only [owns_whole_eq]
  iintro ⟨⟨%M, HM⟩, ⟨%S, HS⟩, Hrest⟩
  iexists M, S
  isplitl [HM]; · iexists M; isplitr; · ipureintro; rfl
                  iexact HM
  isplitl [HS]; · iexists S; isplitr; · ipureintro; rfl
                  iexact HS
  iintro %M' %S' ⟨⟨%f, -, HM⟩, ⟨%g, -, HS⟩⟩
  isplitl [HM]; · iexists f; iexact HM
  isplitl [HS]; · iexists g; iexact HS
  iexact Hrest

/-- What holds before point `n`, the staging buffers aside. -/
def Inv1 (n : ℕ) : sProp 𝕄 :=
  iprop(∃ M S, ⌜Carried c V n M S⌝ ∗ owns (c : Thread nD τ) (Memref.whole cc1_scratch0) fullShare M
    ∗ owns (c : Thread nD τ) (Memref.whole cc1_scratch1) fullShare S ∗ others1 c)

/-- The pass's proof data on core `c`, entered with the buffers at `V`. -/
def rd1 : RDat τ (Elt F) (HIx 1) ℕ UU ℕ cfg1 c where
  A w := V (arrRef spec1 w)
  after w t Y X := match w with
    | ⟨0, _⟩ => X = Y
    | ⟨1, _⟩ => X = Y
    | ⟨2, _⟩ => X = Y
    | ⟨3, _⟩ => X = Y
    | ⟨4, _⟩ => t.val = 24 → LogSum c V X
  Φ t := Inv1 c V t.val
  q _ := fullShare
  owed _ := 0
  recorded _ := waits (F := F) c

theorem atFirst_iff : ∀ t : Fin grid1.N, atFirst (grid1.coords t) = 1#1 ↔ t.val = 0 := by decide
theorem atLast_iff : ∀ t : Fin grid1.N, k1_cond2 (grid1.coords t) = 1#1 ↔ t.val = 24 := by decide

/-- One step of the pass at point `t`. -/
theorem step1 (t : Fin cfg1.N) (w : Vec F S1024x128 .f32) (p : Vec F S1024x1 .i32) (W : Vec F S64x4096 .f32)
    (b : Vec F S1x4096 .f32) (o M S : Vec F S1024x1 .f32) :
    held1 c (st1_0 t) (st1_1 t) (st1_2 t) (st1_3 t) (st1_4 t) (Memref.whole cc1_scratch0) (Memref.whole cc1_scratch1) w p W b o M S
      ⊢ wp frame (wpE (defs₀ (F := F)) 𝒱₀ c none) Set.univ (bodyAt1 t)
          fun _ => iprop(∃ o', ⌜t.val = 24 → o' = k1_pay3 (nextMax t w p W b M) (nextSum t w p W b M S)⌝
            ∗ held1 c (st1_0 t) (st1_1 t) (st1_2 t) (st1_3 t) (st1_4 t) (Memref.whole cc1_scratch0) (Memref.whole cc1_scratch1) w p W b o'
                (nextMax t w p W b M) (nextSum t w p W b M S)) := by
  by_cases h0 : t.val = 0
  · have h1 := (atFirst_iff t).mpr h0
    have h2 : ¬k1_cond2 (grid1.coords t) = 1#1 := fun h => by have := (atLast_iff t).mp h; omega
    refine (pass1_first c (grid1.coords t) _ _ _ _ _ _ _ _ _ _ _ _ _ _ w p W b o M S h1 h2).trans (wp_mono _ _ _ fun _ => ?_)
    unfold nextMax nextSum
    rw [if_pos h0, if_pos h0]
    iintro H
    iexists o
    isplitr; · ipureintro; intro h; omega
    iexact H
  · have h1 : ¬atFirst (grid1.coords t) = 1#1 := fun h => h0 ((atFirst_iff t).mp h)
    by_cases h24 : t.val = 24
    · refine (pass1_last c (grid1.coords t) _ _ _ _ _ _ _ _ _ _ _ _ _ _ w p W b o M S h1 ((atLast_iff t).mpr h24)).trans (wp_mono _ _ _ fun _ => ?_)
      unfold nextMax nextSum
      rw [if_neg h0, if_neg h0]
      iintro H
      iexists _
      isplitr; · ipureintro; intro _; rfl
      iexact H
    · refine (pass1_middle c (grid1.coords t) _ _ _ _ _ _ _ _ _ _ _ _ _ _ w p W b o M S h1 (fun h => h24 ((atLast_iff t).mp h))).trans (wp_mono _ _ _ fun _ => ?_)
      unfold nextMax nextSum
      rw [if_neg h0, if_neg h0]
      iintro H
      iexists o
      isplitr; · ipureintro; intro h; exact absurd h h24
      iexact H

theorem defs₀_row1 (t : Fin cfg1.N) : defs₀ (F := F) .tc cfg1.body (cfg1.bodyArgs t (cfg1.slots t)) = bodyAt1 t := rfl

/-- The inputs' staging buffers hold their blocks at every point. -/
theorem staged1 (w : Fin cfg1.W) (hw : (cfg1.win w).isOut = false) (hc : ∀ t : Fin cfg1.N, (cfg1.win w).fetch t = true ∨ w.val < 2)
    (t : Fin cfg1.N) (Y) (hY : (rd1 c V).Finds w t Y) : Staged (cfg1.win w) c t (V (arrRef spec1 w)) Y := by
  rcases hc t with h | h
  · exact ((rd1 c V).finds_of_fetch h Y).mp hY
  · have hw2 : w = 0 ∨ w = 1 := by rcases w with ⟨_ | _ | n, hn⟩ <;> first | exact .inl rfl | exact .inr rfl | exact absurd h (by simp)
    rcases hw2 with rfl | rfl
    · exact RDat.finds_in_eq_fetched (rd1 c V) 0 rfl (fun _ _ _ => rfl) (fun _ _ _ h => h) t Y hY
    · exact RDat.finds_in_eq_fetched (rd1 c V) 1 rfl (fun _ _ _ => rfl) (fun _ _ _ h => h) t Y hY

/-- The body's obligation. -/
theorem body1 : (rd1 c V).BodyObligation (defs₀ (F := F)) 𝒱₀ none Set.univ := by
  intro t Y hY
  rw [bigSep_W1, bigSep_W1, defs₀_row1]
  have hs0 := staged1 c V 0 rfl (fun t => .inr (by decide)) t (Y 0) (hY 0)
  have hs1 := staged1 c V 1 rfl (fun t => .inr (by decide)) t (Y 1) (hY 1)
  have hs2 := staged1 c V 2 rfl (fun t => .inl (fetch1_2 t)) t (Y 2) (hY 2)
  have hs3 := staged1 c V 3 rfl (fun t => .inl (fetch1_3 t)) t (Y 3) (hY 3)
  rw [show (rd1 c V).Φ t.castSucc = Inv1 c V t.val from rfl, show (rd1 c V).Φ t.succ = Inv1 c V (t.val + 1) from rfl]
  unfold Inv1
  iintro ⟨⟨%M, %S, %hC, HM, HS, Hrest⟩, HO, H0, H1, H2, H3, H4⟩
  iapply (wp_wand_r _ _ _)
  isplitl [H0 H1 H2 H3 H4 HM HS]
  · iapply (step1 c t (Y 0) (Y 1) (Y 2) (Y 3) (Y 4) M S)
    unfold held1
    iframe
  iintro %_ ⟨%o', %ho, H⟩
  unfold held1
  icases H with ⟨H0, H1, H2, H3, H4, HM, HS⟩
  have hC' : Carried c V (t.val + 1) (nextMax t (Y 0) (Y 1) (Y 2) (Y 3) M) (nextSum t (Y 0) (Y 1) (Y 2) (Y 3) M S) :=
    ⟨t.isLt, M, S, Y 0, Y 1, Y 2, Y 3, hC, hs0, hs1, hs2, hs3, rfl, rfl⟩
  isplitl [HM HS Hrest]
  · iexists _, _
    isplitr; · ipureintro; exact hC'
    isplitl [HM]; · iexact HM
    isplitl [HS]; · iexact HS
    iexact Hrest
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  iexists _; isplitr; swap; · iexact H4
  ipureintro
  intro h24
  have e : t.val + 1 = 25 := by omega
  exact ⟨_, _, e ▸ hC', ho h24⟩

end

end Cert.Proof.RunKernelIdeal

end
-- ==== Proof.KernelIdeal.Pass2.lean ====
/-
  The second TensorCore pass as a relation: what each block it leaves may hold, whatever the staging buffers held beyond
  the edge of the clipped arrays; and that the body's steps keep the relation.
-/
module

public import proofs.«01_k».proof.Proof.KernelIdeal.Pass1

@[expose] public section

noncomputable section

namespace Cert.Proof.RunKernelIdeal

open Cert.KernelIdeal Cert.KernelIdeal.Gen Cert.Proof.Shared
open Idealize.ShloMosaic Idealize.ShloMosaic.TcCoe Idealize.ShloMosaic.Tactic
open Idealize.ShloMosaic.SparseCore.Cfg (HIx)
open Idealize.ShloMosaic.Pipeline (RDat arrRef)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (c : Dev nD) (V : Contents nD τ sig (Elt F) c)

/-- What the block of the step at point `t` may hold. -/
def Block (t : Fin grid2.N) (X : Vec F S1024x4096 .bf16) : Prop :=
  ∃ (w : Vec F S1024x128 .f32) (p : Vec F S1024x1 .i32) (W : Vec F S64x4096 .f32) (b : Vec F S1x4096 .f32) (l : Vec F S1024x1 .f32),
    Staged win2_0 c t (V main_v5) w ∧ Staged win2_1 c t (V main_v3) p ∧ Staged win2_2 c t (V main_v7) W
      ∧ Staged win2_3 c t (V main_v6) b ∧ Staged win2_4 c t (V main_v8) l ∧ X = blockOut w p W b l

/-- The pass's proof data on core `c`, entered with the buffers at `V`. -/
def rd2 : RDat τ (Elt F) (HIx 1) ℕ UU ℕ cfg2 c where
  A w := V (arrRef spec2 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => Block c V t X
  Φ _ := Pipeline.scopedRest spec2 c
  q _ := fullShare
  owed _ := 0
  recorded _ := waits (F := F) c

theorem defs₀_row2 (t : Fin cfg2.N) : defs₀ (F := F) .tc cfg2.body (cfg2.bodyArgs t (cfg2.slots t)) = bodyAt2 t := rfl

/-- The inputs' staging buffers hold their blocks at every point: those fetched at every point, -/
theorem staged2 (w : Fin cfg2.W) (h : ∀ t : Fin cfg2.N, (cfg2.win w).fetch t = true)
    (t : Fin cfg2.N) (Y) (hY : (rd2 c V).Finds w t Y) : Staged (cfg2.win w) c t (V (arrRef spec2 w)) Y :=
  ((rd2 c V).finds_of_fetch (h t) Y).mp hY

/-- and those whose block and cut never change. -/
theorem staged2_const (w : Fin cfg2.W) (hw : (cfg2.win w).isOut = false)
    (hclip : ∀ t t' : Fin cfg2.N, (cfg2.win w).clip (cfg2.grid.coords t) = (cfg2.win w).clip (cfg2.grid.coords t'))
    (hkeep : ∀ t Y X, (rd2 c V).after w t Y X → X = Y)
    (t : Fin cfg2.N) (Y) (hY : (rd2 c V).Finds w t Y) : Staged (cfg2.win w) c t (V (arrRef spec2 w)) Y :=
  RDat.finds_in_eq_fetched (rd2 c V) w hw (fun t t' _ => hclip t t') hkeep t Y hY

/-- The body's obligation. -/
theorem body2 : (rd2 c V).BodyObligation (defs₀ (F := F)) 𝒱₀ none Set.univ := by
  intro t Y hY
  rw [bigSep_W2, bigSep_W2, defs₀_row2]
  have hs0 := staged2_const c V 0 rfl (fun _ _ => rfl) (fun _ _ _ h => h) t (Y 0) (hY 0)
  have hs1 := staged2_const c V 1 rfl (fun _ _ => rfl) (fun _ _ _ h => h) t (Y 1) (hY 1)
  have hs2 := staged2 c V 2 fetch2_2 t (Y 2) (hY 2)
  have hs3 := staged2 c V 3 fetch2_3 t (Y 3) (hY 3)
  have hs4 := staged2_const c V 4 rfl (fun _ _ => rfl) (fun _ _ _ h => h) t (Y 4) (hY 4)
  rw [show (rd2 c V).Φ t.castSucc = Pipeline.scopedRest spec2 c from rfl, show (rd2 c V).Φ t.succ = Pipeline.scopedRest spec2 c from rfl]
  iintro ⟨Hrest, HO, H0, H1, H2, H3, H4, H5⟩
  iapply (wp_wand_r _ _ _)
  isplitl [H0 H1 H2 H3 H4 H5]
  · iapply (pass2_step c (grid2.coords t) _ _ _ _ _ _ _ _ _ _ _ _ (Y 0) (Y 1) (Y 2) (Y 3) (Y 4) (Y 5))
    unfold held2
    iframe
  iintro %_ H
  unfold held2
  icases H with ⟨H0, H1, H2, H3, H4, H5⟩
  isplitl [Hrest]; · iexact Hrest
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _; isplitr; swap; · iexact H5
  ipureintro
  exact ⟨_, _, _, _, _, hs0, hs1, hs2, hs3, hs4, rfl⟩

end Cert.Proof.RunKernelIdeal

end
-- ==== Proof.KernelIdeal.HostOps.lean ====
/-
  The host operations of the program's main function around its three calls, as lists, and what the buffers the calls
  read hold after them.
-/
module

public import proofs.«01_k».proof.Proof.KernelIdeal.Setup
public import proofs.«01_k».proof.Proof.Shared.Words
public import Idealize.ShloMosaic.Lib.StableHlo.Run

@[expose] public section

noncomputable section

namespace Cert.Proof.RunKernelIdeal

open Cert.KernelIdeal Cert.KernelIdeal.Gen
open Idealize.ShloMosaic Idealize.ShloMosaic.TcCoe Idealize.ShloMosaic.StableHlo
open Idealize.SL.Sem
open Cert.Proof.Shared (halfWord parityWord)

variable {F : FTy → Type} [FloatOps F] [Named F]

/-- The host operations before the SparseCore call: the paired rows and the parities of the ids, and the paired table. -/
def opsBefore : List (HloOp τ sig (Elt F)) :=
  [StableHlo.nullary main_c (constantI S_ 32 2#32),
    StableHlo.TRef.unary (.of main_c) main_call0.v0 id,
    StableHlo.TRef.unary main_call0.v0 main_call0.v1 (broadcastInDim S1024 ![] bcast_S_S1024),
    StableHlo.TRef.binary (.of main_arg0) main_call0.v1 main_call0.v2 Host.divsi,
    StableHlo.TRef.unary (.of main_arg0) main_call0.v3 signi,
    StableHlo.TRef.unary main_call0.v0 main_call0.v4 signi,
    StableHlo.TRef.unary main_call0.v4 main_call0.v5 (broadcastInDim S1024 ![] bcast_S_S1024),
    StableHlo.TRef.binary main_call0.v3 main_call0.v5 main_call0.v6 (cmpi .ne),
    StableHlo.TRef.unary main_call0.v0 main_call0.v7 (broadcastInDim S1024 ![] bcast_S_S1024),
    StableHlo.TRef.binary (.of main_arg0) main_call0.v7 main_call0.v8 Host.remsi,
    StableHlo.TRef.nullary main_call0.c (constantI S_ 32 0#32),
    StableHlo.TRef.unary main_call0.c main_call0.v9 (broadcastInDim S1024 ![] bcast_S_S1024),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1024 ![] bcast_S_S1024),
    StableHlo.TRef.binary main_call0.v2 main_call0.v12 main_call0.v13 subi,
    StableHlo.TRef.ternary main_call0.v11 main_call0.v13 main_call0.v2 main_call0.call0.v0 select,
    StableHlo.reshape main_v0 main_v1 (rfl : (.i32 : EltTy) = .i32) shapeCasts_S1024_S1x1024,
    StableHlo.nullary main_c_0 (constantI S_ 32 2#32),
    StableHlo.TRef.unary (.of main_c_0) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S1024 ![] bcast_S_S1024),
    StableHlo.TRef.binary (.of main_arg0) main_call1.v3 main_call1.v4 Host.remsi,
    StableHlo.TRef.nullary main_call1.c_1 (constantI S_ 32 0#32),
    StableHlo.TRef.unary main_call1.c_1 main_call1.v5 (broadcastInDim S1024 ![] bcast_S_S1024),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S1024 ![] bcast_S_S1024),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S1024 ![] bcast_S_S1024),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S1024 ![] bcast_S_S1024),
    StableHlo.TRef.binary main_call1.v4 main_call1.v13 main_call1.v14 addi,
    StableHlo.TRef.ternary main_call1.v12 main_call1.v14 main_call1.v4 main_call1.v15 select,
    StableHlo.reshape main_v2 main_v3 (rfl : (.i32 : EltTy) = .i32) shapeCasts_S1024_S1024x1,
    StableHlo.reshape main_arg1 main_v4 (rfl : (.f32 : EltTy) = .f32) shapeCasts_S100000x64_S50000x128]

/-- Those between the SparseCore call and the first pass: the bias as a row, the second table transposed. -/
def opsBetween : List (HloOp τ sig (Elt F)) :=
  [StableHlo.reshape main_arg3 main_v6 (rfl : (.f32 : EltTy) = .f32) shapeCasts_S100000_S1x100000,
    StableHlo.unary main_arg2 main_v7 ((transpose S64x100000 [1, 0] · transposes_S100000x64_S64x100000_1_0) : (⟨S100000x64, .f32⟩ : BufTy).Contents (Elt F) → (⟨S64x100000, .f32⟩ : BufTy).Contents (Elt F))]

/-- The one after the second pass. -/
def opsAfter : List (HloOp τ sig (Elt F)) :=
  [StableHlo.unary main_v9 main_v10 ((extf .f32 · bitsLt_bf16_f32) : (⟨S1024x100000, .bf16⟩ : BufTy).Contents (Elt F) → (⟨S1024x100000, .f32⟩ : BufTy).Contents (Elt F))]

/-- The main function: the lists and the calls in turn. -/
theorem main_eq (d : Dev nD) : main (F := F) d = seq opsBefore >>= fun _ => (K (F := F)).run d 0 >>= fun _ => seq opsBetween >>= fun _ =>
    (Prog.lift (.customCall (SparseCore.inner (Pipeline.entry 0)) ()) : Prog (TpuEff nD τ sig (Elt F) (SparseCore.Sig (ΛP (F := F)) 1) .tc) PUnit) >>= fun _ =>
    (Prog.lift (.customCall (SparseCore.inner (Pipeline.entry 1)) ()) : Prog (TpuEff nD τ sig (Elt F) (SparseCore.Sig (ΛP (F := F)) 1) .tc) PUnit) >>= fun _ =>
    seq opsAfter := by
  simp only [main, fn_floor_divide.body, fn_remainder.body, fn_where.body, fn_where_0.body, opsBefore, opsBetween, opsAfter, seq, bind_assoc, pure_bind, bind_pure]

theorem opsBefore_bufs : (opsBefore (F := F)).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., reshape_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., reshape_bufs_sub .., reshape_bufs_sub ..⟩
theorem opsBetween_bufs : (opsBetween (F := F)).Forall fun op => op.bufs ⊆ tcRefs τ sig := ⟨reshape_bufs_sub .., unary_bufs_sub ..⟩
theorem opsAfter_bufs : (opsAfter (F := F)).Forall fun op => op.bufs ⊆ tcRefs τ sig := unary_bufs_sub ..
theorem opsBefore_fresh : ∀ op ∈ opsBefore (F := F), op.fresh = ∅ := List.forall_iff_forall_mem.mp (forall_fresh_of_map rfl)
theorem opsBetween_fresh : ∀ op ∈ opsBetween (F := F), op.fresh = ∅ := List.forall_iff_forall_mem.mp (forall_fresh_of_map rfl)
theorem opsAfter_fresh : ∀ op ∈ opsAfter (F := F), op.fresh = ∅ := List.forall_iff_forall_mem.mp (forall_fresh_of_map rfl)

variable (V : Valuation τ sig (Elt F))

theorem before_v4 : after opsBefore V main_v4 = shapeCast S50000x128 (V main_arg1) shapeCasts_S100000x64_S50000x128 := by
  unfold opsBefore; after_results_simp; rfl

theorem before_v1 : after opsBefore V main_v1 = shapeCast S1x1024 (fun i => halfWord (V main_arg0 i)) shapeCasts_S1024_S1x1024 := by
  unfold opsBefore; after_results_simp; simp only [TRef.ofBuf_toBuf, id]; rfl
theorem before_v3 : after opsBefore V main_v3 = shapeCast S1024x1 (fun i => parityWord (V main_arg0 i)) shapeCasts_S1024_S1024x1 := by
  unfold opsBefore; after_results_simp; simp only [TRef.ofBuf_toBuf, id]; rfl

/-- What the operations before the SparseCore call write. -/
def written : List (Ref sig .tc) :=
  [main_c, main_call0.v0.ref, main_call0.v1.ref, main_call0.v2.ref, main_call0.v3.ref, main_call0.v4.ref, main_call0.v5.ref, main_call0.v6.ref, main_call0.v7.ref, main_call0.v8.ref, main_call0.c.ref, main_call0.v9.ref, main_call0.v10.ref, main_call0.v11.ref, main_call0.c_0.ref, main_call0.v12.ref, main_call0.v13.ref, main_call0.call0.v0.ref, main_v1, main_c_0, main_call1.v0.ref, main_call1.c.ref, main_call1.v1.ref, main_call1.c_0.ref, main_call1.call0.v0.ref, main_call1.v3.ref, main_call1.v4.ref, main_call1.c_1.ref, main_call1.v5.ref, main_call1.v6.ref, main_call1.c_2.ref, main_call1.v7.ref, main_call1.v8.ref, main_call1.c_3.ref, main_call1.v9.ref, main_call1.v10.ref, main_call1.v11.ref, main_call1.v12.ref, main_call1.v13.ref, main_call1.v14.ref, main_call1.v15.ref, main_v3, main_v4]

theorem opsBefore_writes : (opsBefore (F := F)).Forall fun op => op.writes ⊆ (written.map (Proc.devRef (τ := τ) .tc)).toFinset :=
  forall_writes_sub_of_map rfl

/-- The operations before the SparseCore call keep the arguments. -/
theorem before_arg {r : Ref sig .tc} (hr : r ∉ written) : after opsBefore V r = V r := after_of_writes_sub opsBefore V opsBefore_writes hr

theorem between_v6 : after opsBetween V main_v6 = shapeCast S1x100000 (V main_arg3) shapeCasts_S100000_S1x100000 := by
  unfold opsBetween; after_results_simp; rfl
theorem between_v7 : after opsBetween V main_v7 = transpose S64x100000 [1, 0] (V main_arg2) transposes_S100000x64_S64x100000_1_0 := by
  unfold opsBetween; after_results_simp
theorem opsBetween_writes : (opsBetween (F := F)).Forall fun op => op.writes ⊆ (([main_v6, main_v7] : List (Ref sig .tc)).map (Proc.devRef (τ := τ) .tc)).toFinset :=
  forall_writes_sub_of_map rfl
theorem between_other {r : Ref sig .tc} (hr : r ∉ ([main_v6, main_v7] : List (Ref sig .tc))) : after opsBetween V r = V r :=
  after_of_writes_sub opsBetween V opsBetween_writes hr

theorem after_v10 : after opsAfter V main_v10 = extf .f32 (V main_v9) bitsLt_bf16_f32 := by
  unfold opsAfter; after_results_simp
theorem opsAfter_writes : (opsAfter (F := F)).Forall fun op => op.writes ⊆ (([main_v10] : List (Ref sig .tc)).map (Proc.devRef (τ := τ) .tc)).toFinset :=
  forall_writes_sub_of_map rfl
theorem after_other {r : Ref sig .tc} (hr : r ∉ ([main_v10] : List (Ref sig .tc))) : after opsAfter V r = V r :=
  after_of_writes_sub opsAfter V opsAfter_writes hr

end Cert.Proof.RunKernelIdeal

end
-- ==== Proof.KernelIdeal.Calls.lean ====
/-
  The two TensorCore passes as steps of the main function: from the core's unscoped buffers and its dues once the
  SparseCore call has returned, each runs to the buffers its relation allows.
-/
module

public import proofs.«01_k».proof.Proof.KernelIdeal.Deal
public import proofs.«01_k».proof.Proof.KernelIdeal.Pass2
public import proofs.«01_k».proof.Proof.KernelIdeal.HostOps
public import Idealize.ShloMosaic.Lib.StableHlo.RunLoop

@[expose] public section

noncomputable section

namespace Cert.Proof.RunKernelIdeal

open Cert.KernelIdeal Cert.KernelIdeal.Gen Cert.Proof.Shared
open Idealize.ShloMosaic Idealize.ShloMosaic.TcCoe Idealize.ShloMosaic.Tactic Idealize.ShloMosaic.StableHlo
open Idealize.ShloMosaic.SparseCore.Cfg (HIx)
open Idealize.ShloMosaic.Pipeline (RDat arrRef ucRefs cellsGhost toksInit owesWithin)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The pipelines' own rounds. -/
abbrev EP : Emb UPipe (MT nD τ sig (HIx 1) (Elt F) ℕ UU ℕ) := (Emb.inl : Emb UPipe (UPipe × Counters)).trans embR

instance EP_landsIn : (EP (F := F)).LandsIn (upEmb : UEmb _ 𝕄) := by unfold EP; infer_instance

/-- The passes prefetch no table. -/
abbrev adm : (p : Fin 2) → (pcfgs (F := F) p).Adm := fun q => (cfgs q).toPCfg_adm

/-- The passes' proof data, entered with the buffers at `W`. -/
def fam (W : Valuation τ sig (Elt F)) : (p : Fin 2) → (c : Dev nD) → RDat τ (Elt F) (HIx 1) ℕ UU ℕ (Pipeline.pin (pcfgs (F := F)) adm p) c
  | ⟨0, _⟩, c => rd1 c fun b => W b
  | ⟨1, _⟩, c => rd2 c fun b => W b

theorem bound_eq {cfg : Pipeline.Cfg sig Λ₀} (c : Dev nD) : waits (F := F) c ∪ cfg.waitPairs (none : HIx 1) = waits (F := F) c :=
  Set.union_eq_left.mpr fun p hp => by
    obtain ⟨w, s, rfl⟩ := hp
    exact Nat.zero_le 8

abbrev Seg (W : Valuation τ sig (Elt F)) (p : Fin 2) : Type 1 :=
  RDat.RegionSeg (pcfgs (F := F)) adm (fam W) (none : HIx 1) (defs₀ (F := F)) 𝒱₀ (K (F := F)).L (K (F := F)).lev p

/-- The first pass, entered with the buffers at `W`, -/
def pass1 (W : Valuation τ sig (Elt F)) : Seg W 0 :=
  region (pcfgs (F := F)) adm (fam W) none defs₀ 𝒱₀ (K (F := F)).L (K (F := F)).lev 0 launch1.toP rfl (fun c b => W b)
    (fun _ _ => rfl) (fun c w => by show (if _ then _ else _) = _; split <;> rfl) (fun c => body1 c fun b => W b) (fun _ _ => rfl) waits (fun c _ => bound_eq c)
    (fun c => by
      refine (scopedRest_open1 c).trans ?_
      show _ ⊢ Inv1 c (fun b => W b) 0
      unfold Inv1
      iintro ⟨%M, %S, H⟩
      iexists M, S
      isplitr; · ipureintro; trivial
      iexact H)
    (fun c => by
      show Inv1 c (fun b => W b) _ ⊢ _
      unfold Inv1 others1
      iintro ⟨%M, %S, -, HM, HS, H⟩
      iapply H $$ %M %S
      isplitl [HM] <;> iassumption)
/-- and the second. -/
def pass2 (W : Valuation τ sig (Elt F)) : Seg W 1 :=
  region (pcfgs (F := F)) adm (fam W) none defs₀ 𝒱₀ (K (F := F)).L (K (F := F)).lev 1 launch2.toP rfl (fun c b => W b)
    (fun _ _ => rfl) (fun c w => by show (if _ then _ else _) = _; split <;> rfl) (fun c => body2 c fun b => W b) (fun _ _ => rfl) waits (fun c _ => bound_eq c)
    (fun c => by show Pipeline.scopedRest spec2 c ⊢ Pipeline.scopedRest spec2 c; exact .rfl)
    (fun c => by show Pipeline.scopedRest spec2 c ⊢ Pipeline.scopedRest spec2 c; exact .rfl)

/-- What pass `p`, entered with the buffers of `d` at `W`, may leave in them. -/
def Leaves (p : Fin 2) (d : Dev nD) (W W' : Valuation τ sig (Elt F)) : Prop :=
  Becomes (pcfgs (F := F)) adm (fam W) p d (fun b => W b) (fun b => W' b)

/-- Contents of the core's buffers are a valuation's. -/
theorem exists_valuation (d : Dev nD) (V : Contents nD τ sig (Elt F) d) : ∃ W : Valuation τ sig (Elt F), (fun b : Ref sig .tc => W (Proc.devRef .tc b) : Contents nD τ sig (Elt F) d) = V := by
  classical
  refine ⟨fun b => if h : ∃ r : Ref sig .tc, Proc.devRef .tc r = b then h.choose_spec ▸ (V h.choose : (Proc.devRef (τ := τ) .tc h.choose).ty.Contents (Elt F)) else fun _ => Classical.choice inferInstance, funext fun r => ?_⟩
  have h : ∃ r' : Ref sig .tc, Proc.devRef (τ := τ) .tc r' = Proc.devRef .tc r := ⟨r, rfl⟩
  have key : ∀ (r' : Ref sig .tc) (e : Proc.devRef (τ := τ) .tc r' = Proc.devRef .tc r), (e ▸ (V r' : (Proc.devRef (τ := τ) .tc r').ty.Contents (Elt F)) : (Proc.devRef (τ := τ) .tc r).ty.Contents (Elt F)) = V r := by
    intro r' e
    obtain rfl := Proc.devRef_injective _ e
    rfl
  show (if h : ∃ r' : Ref sig .tc, Proc.devRef (τ := τ) .tc r' = Proc.devRef .tc r then _ else _) = _
  rw [dif_pos h]
  exact key _ h.choose_spec

/-- What the TensorCore holds between calls once the SparseCore call has returned, its dues set apart. -/
theorem tcSt_dues (d : Dev nD) : (K (F := F)).tcSt (EH (F := F)) d 1
    ⊢ iprop(owesWithin d 0 (waits (F := F) d) ∗ (owesWithin d 0 (waits (F := F) d) -∗ (K (F := F)).tcSt (EH (F := F)) d 1)) := by
  unfold SparseCore.Cfg.tcSt owesWithin
  rw [(K (F := F)).Otc_end d (Nat.le_refl 1)]
  iintro ⟨⟨%W, %hW, HO⟩, H⟩
  isplitl [HO]
  · iexists W
    isplitr; · ipureintro; exact fun x hx => hW x hx
    iexact HO
  iintro ⟨%W', %hW', HO⟩
  isplitl [HO]
  · iexists W'
    isplitr; · ipureintro; exact fun x hx => hW' hx
    iexact HO
  iexact H

variable (Pp : (K (F := F)).Pay (nD := nD) (Val := Elt F) (Name := ℕ) (U := UU))

/-- A pass as a step of the main function. -/
theorem wp_pass (κ : GSem nD τ sig → ℕ) (d : Dev nD) {p : Fin 2} (W : Valuation τ sig (Elt F)) (R : Seg W p)
    (hpre : R.pre d = (iprop(unscopedBufs d (fun b => W b) ∗ owesWithin d 0 (waits (F := F) d)) : sProp 𝕄))
    (hpost : R.post d = (iprop((∃ V' : Contents nD τ sig (Elt F) d, ⌜Becomes (pcfgs (F := F)) adm (fam W) p d (fun b => W b) V'⌝ ∗ unscopedBufs d V')
      ∗ owesWithin d 0 (waits (F := F) d)) : sProp 𝕄))
    (Q : PUnit → sProp 𝕄) :
    iprop((K (F := F)).ctx (EH (F := F)) Pp κ ∗ (boundary (d.tc : Thread nD τ) ∗ held (d.tc : Thread nD τ) (ucRefs τ sig) W ∗ (K (F := F)).tcSt (EH (F := F)) d 1)
        ∗ (cellsGhost (Pipeline.pin (pcfgs (F := F)) adm) EP p d ∗ toksInit (Pipeline.pin (pcfgs (F := F)) adm) EP p d)
        ∗ (∀ W' : Valuation τ sig (Elt F), ⌜Leaves p d W W'⌝ -∗
            (boundary (d.tc : Thread nD τ) ∗ held (d.tc : Thread nD τ) (ucRefs τ sig) W' ∗ (K (F := F)).tcSt (EH (F := F)) d 1) -∗ Q ⟨⟩))
      ⊢ wp frame (wpE ((K (F := F)).defs (D (F := F))) 𝒱 (SparseCore.T d) none) Set.univ
          (Prog.lift (.customCall (SparseCore.inner (Pipeline.entry p)) ()) : Prog (TpuEff nD τ sig (Elt F) (SparseCore.Sig (ΛP (F := F)) 1) .tc) PUnit) Q := by
  refine BIBase.Entails.trans ?_ ((K (F := F)).wp_liftProg (D (F := F)) 𝒱 (SparseCore.T d) Set.univ none (Prog.lift (.customCall (Pipeline.entry p) ())) Q)
  refine BIBase.Entails.trans ?_ (RDat.RegionSeg.wp (pcfgs (F := F)) adm (fam W) (none : HIx 1) (launch1.toP.cellOf_inj adm) EP (defs₀ (F := F)) 𝒱₀ (K (F := F)).L (K (F := F)).lev
    R d none (fun u hu => nomatch hu) (fun x => .ret x) Q)
  rw [hpre, hpost]
  have hopen := tcSt_dues (F := F) d
  have hheld := Entails.of_eq (Pipeline.unscopedBufs_held (Ix := HIx 1) (Name := ℕ) (U := UU) (Lvl := ℕ) d W).symm
  iintro ⟨#Hctx, ⟨Hb, Hub, Hst⟩, ⟨Hg, Ht⟩, Hk⟩
  ihave Hst' := hopen $$ Hst
  icases Hst' with ⟨HO, Hst⟩
  ihave Hlev := (SparseCore.Cfg.ctx_levAts κ) $$ Hctx
  isplitl [Hst Hk]
  · iintro ⟨Hb, ⟨%V', %hV, Hub⟩, HO⟩
    obtain ⟨W', rfl⟩ := exists_valuation d V'
    rw [wp_ret]
    imodintro
    ihave Hk' := Hk $$ %W' %hV
    iapply Hk'
    isplitl [Hb]; · iexact Hb
    isplitl [Hub]; · rw [← Pipeline.unscopedBufs_held d W']; iexact Hub
    iapply Hst; iexact HO
  isplitl [Hb]; · iexact Hb
  isplitl [Hub HO]
  · isplitl [Hub]; · iapply hheld; iexact Hub
    iexact HO
  isplitl [Hlev]; · iexact Hlev
  isplitl [Hg] <;> iassumption

end Cert.Proof.RunKernelIdeal

end
-- ==== Proof.KernelIdeal.Run.lean ====
/-
  The program's run: the main function over the two cores' work, from the launch memory to what its buffers may hold at
  the end.
-/
module

public import proofs.«01_k».proof.Proof.KernelIdeal.Calls

@[expose] public section

noncomputable section

namespace Cert.Proof.RunKernelIdeal

open Cert.KernelIdeal Cert.KernelIdeal.Gen Cert.Proof.Shared
open Idealize.ShloMosaic Idealize.ShloMosaic.TcCoe Idealize.ShloMosaic.Tactic Idealize.ShloMosaic.StableHlo
open Idealize.ShloMosaic.SparseCore.Cfg (HIx)
open Idealize.ShloMosaic.Pipeline (RDat arrRef ucRefs cellsGhost toksInit owesWithin)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The launch element of the certificate's ghost state -/

abbrev pins : Fin 2 → Pipeline.Cfg sig Λ₀ := Pipeline.pin (pcfgs (F := F)) adm
theorem pins_inj : Function.Injective (Pipeline.cellOf (nD := nD) (τ := τ) (pins (F := F))) := launch1.toP.cellOf_inj adm

def u₀ : UU := (initOf (K (F := F)).hsCells (K (F := F)).hsToks,
  (initOf (Pipeline.cells (pins (F := F)) pins_inj) (Pipeline.launchToks (pins (F := F)) pins_inj), 1))

/-- The pipelines' rounds on core `d`. -/
def ghosts (d : Dev nD) : sProp 𝕄 :=
  iprop((cellsGhost (pins (F := F)) EP 0 d ∗ toksInit (pins (F := F)) EP 0 d) ∗ (cellsGhost (pins (F := F)) EP 1 d ∗ toksInit (pins (F := F)) EP 1 d))

variable (Pp : (K (F := F)).Pay (nD := nD) (Val := Elt F) (Name := ℕ) (U := UU))

theorem sep_swap (A B C E : sProp 𝕄) : iprop((A ∗ B) ∗ C ∗ E) ⊢ iprop((A ∗ C) ∗ B ∗ E) := by
  iintro ⟨⟨Ha, Hb⟩, Hc, Hd⟩
  isplitl [Ha Hc]
  · isplitl [Ha] <;> iassumption
  isplitl [Hb] <;> iassumption

theorem ghosts_eq : iprop((bigSep Finset.univ fun c : Dev nD => bigSep Finset.univ fun p : Fin 2 => cellsGhost (pins (F := F)) EP p c)
    ∗ (bigSep Finset.univ fun c : Dev nD => bigSep Finset.univ fun p : Fin 2 => (toksInit (pins (F := F)) EP p c : sProp 𝕄)))
    ⊢ bigSep Finset.univ fun d : Dev nD => ghosts (F := F) d := by
  rw [← bigSep_sep']
  refine bigSep_mono fun d _ => ?_
  rw [bigSep_fin_two, bigSep_fin_two]
  exact sep_swap _ _ _ _

theorem hu₀ (hx : ∀ q thr, Pp.x q thr = iprop(emp)) : (ownU (u₀ (F := F)) : sProp 𝕄)
    ⊢ |={Set.univ}=> iprop(BI.own ((EH (F := F)) (initOf (K (F := F)).hsCells (K (F := F)).hsToks)) ∗ (bigSep Finset.univ fun d : Dev nD => ghosts (F := F) d)
        ∗ bigSep Finset.univ fun thr : Thread nD τ => bigSep Finset.univ fun q : Fin 1 => Pp.x q thr) := by
  have e : (bigSep Finset.univ fun thr : Thread nD τ => bigSep Finset.univ fun q : Fin 1 => Pp.x q thr) = (iprop(emp) : sProp 𝕄) := by
    rw [show (bigSep Finset.univ fun thr : Thread nD τ => bigSep Finset.univ fun q : Fin 1 => Pp.x q thr) = bigSep Finset.univ fun _ => iprop(emp) from
      bigSep_congr fun thr _ => (bigSep_univ_of_subsingleton (0 : Fin 1)).trans (hx 0 thr), bigSep_none]
  rw [e]
  unfold u₀
  have h1 := own_pair_emb (embR : Emb (UPipe × Counters) 𝕄)
    (initOf (Pipeline.cells (pins (F := F)) pins_inj) (Pipeline.launchToks (pins (F := F)) pins_inj)) (1 : Counters)
  have h2 := Pipeline.fund_ghost (Lvl := ℕ) (pins (F := F)) (EP (F := F)) pins_inj
  have h3 := ghosts_eq (F := F)
  iintro Hu
  ihave H := (ownU_pair (initOf (K (F := F)).hsCells (K (F := F)).hsToks) _) $$ Hu
  icases H with ⟨HH, HP⟩
  ihave HP' := h1 $$ HP
  icases HP' with ⟨HP, -⟩
  imod h2 $$ HP with HG
  imodintro
  isplitl [HH]; · iexact HH
  isplitl [HG]; · iapply h3; iexact HG
  iempintro

/-! ## The buffers the SparseCore call takes, among the core's unscoped ones -/

/-- The three buffers of the SparseCore call. -/
abbrev scRefs : Finset (DevRef τ sig) := {Proc.devRef .tc main_v4, Proc.devRef .tc main_v1, Proc.devRef .tc main_v5}

theorem scRefs_sub : scRefs ⊆ ucRefs τ sig := by
  intro b hb
  simp only [scRefs, Finset.mem_insert, Finset.mem_singleton] at hb
  rcases hb with rfl | rfl | rfl <;> exact devRef_mem_ucRefs _ rfl

theorem held_scRefs (d : Dev nD) (W : Valuation τ sig (Elt F)) :
    (held (d.tc : Thread nD τ) scRefs W : sProp 𝕄)
      = iprop((tLoc d ↦{fullShare} W main_v4) ∗ (iLoc d ↦{fullShare} W main_v1) ∗ oLoc d ↦{fullShare} W main_v5) := by
  unfold held
  rw [SparseCore.bigSep_insert' (by decide), SparseCore.bigSep_insert' (by decide), bigSep_singleton]

/-- The buffers after the SparseCore call: its result gathered. -/
def called (W : Valuation τ sig (Elt F)) : Valuation τ sig (Elt F) :=
  Function.update W (Proc.devRef .tc main_v5) (gatheredRows (F := F) (W main_v4) (W main_v1))

theorem called_v5 (W : Valuation τ sig (Elt F)) : called W main_v5 = gatheredRows (F := F) (W main_v4) (W main_v1) := Function.update_self ..
theorem called_other (W : Valuation τ sig (Elt F)) {b : DevRef τ sig} (hb : b ≠ Proc.devRef .tc main_v5) : called W b = W b :=
  Function.update_of_ne hb ..

theorem held_open (d : Dev nD) (W : Valuation τ sig (Elt F)) :
    (held (d.tc : Thread nD τ) (ucRefs τ sig) W : sProp 𝕄)
      ⊢ iprop(((tLoc d ↦{fullShare} W main_v4) ∗ (iLoc d ↦{fullShare} W main_v1) ∗ oLoc d ↦{fullShare} W main_v5)
          ∗ (((tLoc d ↦{fullShare} W main_v4) ∗ (iLoc d ↦{fullShare} W main_v1) ∗ oLoc d ↦{fullShare} gatheredRows (F := F) (W main_v4) (W main_v1))
              -∗ held (d.tc : Thread nD τ) (ucRefs τ sig) (called W))) := by
  have e := held_scRefs (F := F) d (called W)
  rw [called_v5, called_other W (show (Proc.devRef .tc main_v4 : DevRef τ sig) ≠ Proc.devRef .tc main_v5 by decide),
    called_other W (show (Proc.devRef .tc main_v1 : DevRef τ sig) ≠ Proc.devRef .tc main_v5 by decide)] at e
  rw [held_sub_split _ scRefs_sub W, held_sub_split _ scRefs_sub (called W), held_scRefs, e,
    held_congr (V := called W) (V' := W) _ fun b hb => called_other W fun h => (Finset.mem_sdiff.mp hb).2 (h ▸ by decide)]
  iintro ⟨H, Hr⟩
  isplitl [H]; · iexact H
  iintro H
  isplitl [H] <;> iassumption

/-! ## The main function on the TensorCore -/

variable (m : (ℓ : Loc nD τ sig) → Buf (Elt F) ℓ) (ρ : Dev nD → PrngReg)

/-- The launch contents of a device's buffers, -/
def atLaunch (d : Dev nD) : Valuation τ sig (Elt F) := fun b => m (d, b)
/-- those the SparseCore call meets, -/
abbrev atCall (d : Dev nD) : Valuation τ sig (Elt F) := after opsBefore (atLaunch m d)
/-- and those the first pass meets. -/
abbrev atPass1 (d : Dev nD) : Valuation τ sig (Elt F) := after opsBetween (called (atCall m d))

/-- What the buffers may hold at the end. -/
def Ends (d : Dev nD) (W : Valuation τ sig (Elt F)) : Prop :=
  ∃ W₁ W₂ : Valuation τ sig (Elt F), Leaves 0 d (atPass1 m d) W₁ ∧ Leaves 1 d W₁ W₂ ∧ W = after opsAfter W₂

/-- The SparseCore call's operands and the earlier contents of its result. -/
abbrev payOf : (K (F := F)).Pay (nD := nD) (Val := Elt F) (Name := ℕ) (U := UU) :=
  P (fun d => atCall m d main_v4) (fun d => atCall m d main_v1) (fun d => atCall m d main_v5)

/-- What the TensorCore hands in at its end. -/
def FIN (d : Dev nD) : sProp 𝕄 := iprop(∃ W, ⌜Ends m d W⌝ ∗ held (d.tc : Thread nD τ) (ucRefs τ sig) W)

theorem forall_sub {ops : List (HloOp τ sig (Elt F))} (h : ops.Forall fun op => op.bufs ⊆ tcRefs τ sig) : ∀ op ∈ ops, op.bufs ⊆ ucRefs τ sig :=
  fun op hop => Pipeline.sub_ucRefs op (List.forall_iff_forall_mem.mp h op hop)

theorem hmain (κ : GSem nD τ sig → ℕ) (d : Dev nD) :
    iprop((K (F := F)).ctx (EH (F := F)) (payOf m) κ ∗ (K (F := F)).tcSt (EH (F := F)) d 0 ∗ (K (F := F)).tcRes m ρ d ∗ ghosts d)
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  unfold SparseCore.Cfg.tcRes SparseCore.Cfg.tcEnd ghosts FIN
  have e0 : (unscopedBufs d (fun b => m ((SparseCore.T d : Thread nD τ).loc b)) : sProp 𝕄) ⊢ held (d.tc : Thread nD τ) (ucRefs τ sig) (atLaunch m d) :=
    Entails.of_eq (Pipeline.unscopedBufs_held (Ix := HIx 1) (Name := ℕ) (U := UU) (Lvl := ℕ) d (atLaunch m d))
  have hop := held_open (F := F) d (atCall m d)
  rw [main_eq]
  iintro ⟨#Hctx, Hst, ⟨Hb, Hub, Hts, -⟩, Hg1, Hg2⟩
  ihave Hub := e0 $$ Hub
  iapply (wp_seq 𝒱 none Set.univ d (ucRefs τ sig) _ opsBefore (forall_sub opsBefore_bufs) opsBefore_fresh (atLaunch m d)) $$ [Hb Hub]
  · isplitl [Hb] <;> iassumption
  iintro ⟨Hb, Hub⟩
  ihave H := hop $$ Hub
  icases H with ⟨Hin, Hback⟩
  rw [wp_bind]
  iapply ((K (F := F)).wp_run (D (F := F)) 𝒱 (EH := EH (F := F)) (P := payOf m) κ d 0)
  isplitr; · iexact Hctx
  isplitl [Hst]; · iexact Hst
  isplitl [Hin]
  · rw [st_eq]; iexact Hin
  iintro ⟨Hst, Hdn⟩
  ihave Hdn' := (Entails.of_eq (dn_eq _ _ _ d)) $$ Hdn
  ihave Hub := Hback $$ Hdn'
  iapply (wp_seq 𝒱 none Set.univ d (ucRefs τ sig) _ opsBetween (forall_sub opsBetween_bufs) opsBetween_fresh (called (atCall m d))) $$ [Hb Hub]
  · isplitl [Hb] <;> iassumption
  iintro ⟨Hb, Hub⟩
  rw [wp_bind]
  iapply (wp_pass (payOf m) κ d (atPass1 m d) (pass1 (atPass1 m d)) rfl rfl)
  isplitr; · iexact Hctx
  isplitl [Hb Hub Hst]
  · isplitl [Hb]; · iexact Hb
    isplitl [Hub]; · iexact Hub
    iexact Hst
  isplitl [Hg1]; · iexact Hg1
  iintro %W₁ %h₁ ⟨Hb, Hub, Hst⟩
  rw [wp_bind]
  iapply (wp_pass (payOf m) κ d W₁ (pass2 W₁) rfl rfl)
  isplitr; · iexact Hctx
  isplitl [Hb Hub Hst]
  · isplitl [Hb]; · iexact Hb
    isplitl [Hub]; · iexact Hub
    iexact Hst
  isplitl [Hg2]; · iexact Hg2
  iintro %W₂ %h₂ ⟨Hb, Hub, Hst⟩
  rw [← bind_pure (seq opsAfter)]
  iapply (wp_seq 𝒱 none Set.univ d (ucRefs τ sig) _ opsAfter (forall_sub opsAfter_bufs) opsAfter_fresh W₂) $$ [Hb Hub]
  · isplitl [Hb] <;> iassumption
  iintro ⟨Hb, Hub⟩
  rw [wp_pure]
  imodintro
  isplitl [Hst]; · iexact Hst
  isplitl [Hub]
  · iexists (after opsAfter W₂)
    isplitr; · ipureintro; exact ⟨W₁, W₂, h₁, h₂, rfl⟩
    iexact Hub
  isplitl [Hb] <;> iassumption

/-- What the memory holds at the end. -/
def fq (d : Dev nD) (s' : Phys nD τ sig (Elt F)) : Prop := ∃ W, Ends m d W ∧ ∀ b ∈ ucRefs τ sig, s'.mem.mem (d, b) = W b

theorem held_agree (d : Dev nD) (s' : Phys nD τ sig (Elt F)) (W : Valuation τ sig (Elt F)) :
    iprop(held (d.tc : Thread nD τ) (ucRefs τ sig) W ∗ SI s') ⊢ (⌜∀ b ∈ ucRefs τ sig, s'.mem.mem (d, b) = W b⌝ : sProp 𝕄) := by
  refine (forall_intro fun b => ?_).trans pure_forall.2
  by_cases hb : b ∈ ucRefs τ sig
  · have h1 : (held (d.tc : Thread nD τ) (ucRefs τ sig) W : sProp 𝕄) ⊢ ((d, b) ↦{fullShare} W b) := by
      unfold held; exact bigSep_elim (Φ := fun b : DevRef τ sig => (((d.tc : Thread nD τ).1, b) ↦{fullShare} W b : sProp 𝕄)) hb
    refine BIBase.Entails.trans ?_ (Laws.pure_mono fun (h : ∀ i ∈ (Finset.univ : Finset _), s'.mem.mem (d, b) i = W b i) _ => funext fun i => h i (Finset.mem_univ i))
    refine BIBase.Entails.trans ?_ (SI_pointsTo_agree (st := s') (ℓ := (d, b)) (I := Finset.univ) (q := fullShare) (f := W b))
    iintro ⟨H, HS⟩
    isplitl [HS]; · iexact HS
    iapply h1; iexact H
  · exact BIClass.pure_intro fun h => absurd h hb

theorem hfin (d : Dev nD) (s' : Phys nD τ sig (Elt F)) : iprop(FIN m d ∗ SI s') ⊢ (⌜fq m d s'⌝ : sProp 𝕄) := by
  unfold FIN
  have h := held_agree (F := F) d s'
  iintro ⟨⟨%W, %hW, H⟩, HS⟩
  ihave %hb := (h W) $$ [H HS]
  · isplitl [H] <;> iassumption
  ipureintro
  exact ⟨W, hW, hb⟩

/-- Every id is a row of the table. -/
def InRange : Prop := ∀ (d : Dev nD) (i : S1024.Idx), (m ((d.tc : Thread nD τ).loc main_arg0) i).toNat < 100000

theorem atCall_in (hpre : InRange m) (d : Dev nD) (j : S1x1024.Idx) : (atCall m d main_v1 j).toNat < 50000 := by
  unfold atCall
  rw [before_v1]
  exact halfWord_lt (hpre d _)

/-- The run: it ends, nothing faulting, every buffer as `Ends` says and every semaphore at zero. -/
theorem run_main [∀ e, Nonempty (Elt F e)] (hpre : InRange m) :
    θ_run (Cert.KernelIdeal.defs (F := F)) (Cert.KernelIdeal.threads (F := F)) ⟨m, fun _ => 0, ρ⟩
      fun r => (∀ d : Dev nD, ∃ W, Ends m d W ∧ ∀ b ∈ ucRefs τ sig, r.2.mem (d, b) = W b) ∧ r.2.sem = fun _ => 0 :=
  SparseCore.Cfg.θ_run_sc_quiescent (K := K (F := F)) (D := D (F := F)) (𝒱 := 𝒱) (EH := EH (F := F)) (P := payOf m) (A := ∅) facts v₀
    (fun q hq => match q with | 0 => nomatch hq)
    (fun q _ => match q with | 0 => tileObl _ _ _ facts (atCall_in m hpre))
    (fun q _ => match q with | 0 => SparseCore.Cfg.VecSplit.of_plain (vecSplit _ _ _))
    m ρ main (fun d => ghosts d) (FIN m) (u₀ (F := F)) (sep_elim_left.trans (hu₀ (payOf m) fun _ _ => rfl)) (hmain m ρ) (fq m) (hfin m) _ (fun _ h hz => ⟨h, hz⟩)

end Cert.Proof.RunKernelIdeal

end
-- ==== Proof.KernelIdeal.Frame.lean ====
/-
  The arguments at the end of a run: no host operation, no SparseCore call and no pass over the vocabulary writes one.
-/
module

public import proofs.«01_k».proof.Proof.KernelIdeal.Run

@[expose] public section

noncomputable section

namespace Cert.Proof.RunKernelIdeal

open Cert.KernelIdeal Cert.KernelIdeal.Gen Cert.Proof.Shared
open Idealize.ShloMosaic Idealize.ShloMosaic.TcCoe Idealize.ShloMosaic.StableHlo Idealize.SL.Sem
open Idealize.ShloMosaic.Pipeline (ucRefs)

variable {F : FTy → Type} [FloatOps F] [Named F]

variable (m : (ℓ : Loc nD τ sig) → Buf (Elt F) ℓ) (ρ : Dev nD → PrngReg)

/-- A buffer that is no array of a window of pass `p` keeps its contents over it. -/
theorem leaves_other {p : Fin 2} {d : Dev nD} {W W' : Valuation τ sig (Elt F)} (h : Leaves p d W W') {b : Ref sig .tc}
    (hb : b ∉ Finset.univ.image (Pipeline.arrRef (Pipeline.pin (pcfgs (F := F)) adm p).spec)) : W' b = W b := h.2 b hb

/-- A buffer that nothing in the program writes ends with its launch contents. -/
theorem ends_kept {d : Dev nD} {W : Valuation τ sig (Elt F)} (h : Ends m d W) {b : Ref sig .tc} (h₀ : b ∉ written)
    (h₁ : (Proc.devRef .tc b : DevRef τ sig) ≠ Proc.devRef .tc main_v5) (h₂ : b ∉ [main_v6, main_v7]) (h₃ : b ∉ [main_v10])
    (hb₁ : b ∉ Finset.univ.image (Pipeline.arrRef spec1))
    (hb₂ : b ∉ Finset.univ.image (Pipeline.arrRef spec2)) : W b = m ((d.tc : Thread nD τ).loc b) := by
  obtain ⟨W₁, W₂, e₁, e₂, rfl⟩ := h
  rw [after_other _ h₃, leaves_other e₂ hb₂, leaves_other e₁ hb₁]
  exact ((between_other _ h₂).trans (called_other _ h₁)).trans (before_arg _ h₀)

theorem ends_args {d : Dev nD} {W : Valuation τ sig (Elt F)} (h : Ends m d W) :
    W main_arg0 = m ((d.tc : Thread nD τ).loc main_arg0) ∧ W main_arg1 = m ((d.tc : Thread nD τ).loc main_arg1)
      ∧ W main_arg2 = m ((d.tc : Thread nD τ).loc main_arg2) ∧ W main_arg3 = m ((d.tc : Thread nD τ).loc main_arg3) :=
  ⟨ends_kept m h (by decide) (by decide) (by decide) (by decide) (by decide) (by decide),
    ends_kept m h (by decide) (by decide) (by decide) (by decide) (by decide) (by decide),
    ends_kept m h (by decide) (by decide) (by decide) (by decide) (by decide) (by decide),
    ends_kept m h (by decide) (by decide) (by decide) (by decide) (by decide) (by decide)⟩

/-- The run with the arguments unchanged, every semaphore at zero, and the result as `Ends` says. -/
theorem run_args [∀ e, Nonempty (Elt F e)] (hpre : InRange m) :
    θ_run (Cert.KernelIdeal.defs (F := F)) (Cert.KernelIdeal.threads (F := F)) ⟨m, fun _ => 0, ρ⟩
      fun r => (∀ d : Dev nD, (r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3))
        ∧ ∃ W, Ends m d W ∧ r.2.mem ((d.tc : Thread nD τ).loc main_v10) = W main_v10) ∧ r.2.sem = fun _ => 0 :=
  (θ_run Cert.KernelIdeal.defs _ _).mono (fun r h => ⟨fun d => by
    obtain ⟨W, hW, hr⟩ := h.1 d
    obtain ⟨h0, h1, h2, h3⟩ := ends_args m hW
    exact ⟨⟨(hr _ (devRef_mem_ucRefs _ rfl)).trans h0, (hr _ (devRef_mem_ucRefs _ rfl)).trans h1, (hr _ (devRef_mem_ucRefs _ rfl)).trans h2,
      (hr _ (devRef_mem_ucRefs _ rfl)).trans h3⟩, W, hW, hr _ (devRef_mem_ucRefs _ rfl)⟩, h.2⟩) (run_main m ρ hpre)

end Cert.Proof.RunKernelIdeal

end
-- ==== Proof.Shared.LogSum.lean ====
/-
  The logarithm of a sum of exponentials over the extended reals: taken block by block, with a running maximum and a
  running sum that is rescaled when the maximum moves, and taken in one go after a shift by any real number. Neither
  needs the maximum to be the maximum: that it is a real number is enough.
-/
module

public import Idealize.ShloMosaic.PureOps.Ideal
public import Idealize.ShloMosaic.PureOps.Ideal.Laws
public import Mathlib.Algebra.BigOperators.Intervals

@[expose] public section

namespace Cert.Proof.Shared

open Idealize.ShloMosaic
open scoped BigOperators

/-- A finite sum of real numbers, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A maximum over finitely many values that start from a value is real if none is `⊤` and one is above `⊥`. -/
theorem fold_max_real {ι : Type*} (s : Finset ι) (m : EReal) (f : ι → EReal) (hm : m ≠ ⊤) (hf : ∀ i ∈ s, f i ≠ ⊤)
    (h : m ≠ ⊥ ∨ ∃ i ∈ s, f i ≠ ⊥) : ∃ μ : ℝ, max m (s.fold max ⊥ f) = μ := by
  have htop : max m (s.fold max ⊥ f) ≠ ⊤ :=
    (max_lt (lt_top_iff_ne_top.mpr hm)
      ((Finset.fold_max_lt _).mpr ⟨bot_lt_top, fun i hi => lt_top_iff_ne_top.mpr (hf i hi)⟩)).ne
  have hbot : max m (s.fold max ⊥ f) ≠ ⊥ := by
    rcases h with h | ⟨i, hi, h⟩
    · exact (lt_max_of_lt_left (bot_lt_iff_ne_bot.mpr h)).ne'
    · exact (lt_max_of_lt_right ((Finset.lt_fold_max _).mpr (.inr ⟨i, hi, bot_lt_iff_ne_bot.mpr h⟩))).ne'
  exact ⟨(max m (s.fold max ⊥ f)).toReal, (EReal.coe_toReal htop hbot).symm⟩

/-- The exponential of a difference of real numbers. -/
theorem exp_sub_coe (a b : ℝ) : Ideal.exp ((a : EReal) - b) = ((Real.exp (a - b) : ℝ) : EReal) := by
  rw [← EReal.coe_sub, Ideal.exp_coe]

/-- The exponential of a value that is real where `P` holds and `⊥` elsewhere, shifted. -/
theorem exp_sub_ite (P : Prop) [Decidable P] (a b : ℝ) :
    Ideal.exp ((if P then (a : EReal) else ⊥) - b) = ((if P then Real.exp (a - b) else 0 : ℝ) : EReal) := by
  by_cases h : P
  · rw [if_pos h, if_pos h, exp_sub_coe]
  · rw [if_neg h, if_neg h, EReal.bot_sub]; simp

/-- The sum of the exponentials of the first `n` of `N` values, each shifted by `μ`. -/
noncomputable def partialSum (N : ℕ) (L : ℕ → ℝ) (μ : ℝ) (n : ℕ) : ℝ := ∑ c ∈ Finset.range n, if c < N then Real.exp (L c - μ) else 0

/-- A shift by another number scales the sum. -/
theorem partialSum_shift (N : ℕ) (L : ℕ → ℝ) (μ μ' : ℝ) (n : ℕ) :
    partialSum N L μ n * Real.exp (μ - μ') = partialSum N L μ' n := by
  unfold partialSum
  rw [Finset.sum_mul]
  refine Finset.sum_congr rfl fun c _ => ?_
  by_cases h : c < N
  · rw [if_pos h, if_pos h, ← Real.exp_add]; congr 1; ring
  · rw [if_neg h, if_neg h, zero_mul]

/-- From `N` values on the sum is the whole sum. -/
theorem partialSum_whole (N : ℕ) (L : ℕ → ℝ) (μ : ℝ) (n : ℕ) (hn : N ≤ n) :
    partialSum N L μ n = ∑ c : Fin N, Real.exp (L c - μ) := by
  unfold partialSum
  rw [← Finset.sum_range fun c => Real.exp (L c - μ), ← Finset.sum_filter]
  congr 1
  ext c; simp only [Finset.mem_filter, Finset.mem_range]; omega

/-- **One block.** `x` is a block of `K` values, real as `L` names them below `N` and `⊥` beyond; `m` is real or `⊥`, and
    `s` is the sum so far shifted by `m`, or nothing has been summed. Then the block leaves a real maximum and the sum
    with the block's values, shifted by it. -/
theorem block_step (N K n : ℕ) (L : ℕ → ℝ) (x : Fin K → EReal) (hx : ∀ c : Fin K, x c = if n + c.val < N then (L (n + c.val) : EReal) else ⊥)
    (m s m' : EReal) (hm' : m' = max m (Finset.univ.fold max ⊥ x))
    (h : (∃ μ : ℝ, m = μ ∧ s = (partialSum N L μ n : ℝ)) ∨ (n = 0 ∧ m = ⊥ ∧ s = 0 ∧ 0 < N ∧ 0 < K)) :
    ∃ μ' : ℝ, m' = μ' ∧ s * Ideal.exp (m - m') + ∑ c, Ideal.exp (x c - m') = (partialSum N L μ' (n + K) : ℝ) := by
  have hxt : ∀ c ∈ (Finset.univ : Finset (Fin K)), x c ≠ ⊤ := fun c _ => by
    rw [hx]; split
    · exact EReal.coe_ne_top _
    · exact bot_ne_top
  obtain ⟨μ', hμ'⟩ : ∃ μ' : ℝ, m' = μ' := by
    rw [hm']
    refine fold_max_real _ _ _ ?_ hxt ?_
    · rcases h with ⟨μ, rfl, -⟩ | ⟨-, rfl, -⟩
      · exact EReal.coe_ne_top _
      · exact bot_ne_top
    · rcases h with ⟨μ, rfl, -⟩ | ⟨h0, -, -, hN, hK⟩
      · exact .inl (EReal.coe_ne_bot _)
      · refine .inr ⟨⟨0, hK⟩, Finset.mem_univ _, ?_⟩
        rw [hx, if_pos (by show n + 0 < N; omega)]
        exact EReal.coe_ne_bot _
  refine ⟨μ', hμ', ?_⟩
  have hblock : ∑ c, Ideal.exp (x c - m')
      = ((∑ c : Fin K, if n + c.val < N then Real.exp (L (n + c.val) - μ') else 0 : ℝ) : EReal) := by
    rw [← coe_sum]
    refine Finset.sum_congr rfl fun c _ => ?_
    rw [hx, hμ', exp_sub_ite]
  have hold : s * Ideal.exp (m - m') = ((partialSum N L μ' n : ℝ) : EReal) := by
    rcases h with ⟨μ, hm, hs⟩ | ⟨h0, hm, hs, -, -⟩
    · rw [hm, hs, hμ', exp_sub_coe, ← EReal.coe_mul, partialSum_shift]
    · rw [hs, zero_mul, h0]; unfold partialSum; simp
  rw [hold, hblock, ← EReal.coe_add]
  congr 1
  unfold partialSum
  rw [Finset.sum_range_add, Finset.sum_range fun c => if n + c < N then Real.exp (L (n + c) - μ') else 0]

/-- The logarithm of the sum of the exponentials. -/
noncomputable def logSum {N : ℕ} (L : Fin N → ℝ) : ℝ := Real.log (∑ c, Real.exp (L c))

/-- The logarithm of the shifted sum is the logarithm of the sum, shifted. -/
theorem log_shifted {N : ℕ} (hN : 0 < N) (L : Fin N → ℝ) (μ : ℝ) :
    Ideal.log ((∑ c, Real.exp (L c - μ) : ℝ) : EReal) = ((logSum L - μ : ℝ) : EReal) := by
  have hpos : ∀ ν : ℝ, 0 < ∑ c, Real.exp (L c - ν) := fun ν =>
    Finset.sum_pos (fun c _ => Real.exp_pos _) ⟨⟨0, hN⟩, Finset.mem_univ _⟩
  rw [Ideal.log_coe, if_neg (not_le.mpr (hpos μ))]
  congr 1
  have e : ∑ c, Real.exp (L c - μ) = (∑ c, Real.exp (L c)) * Real.exp (-μ) := by
    rw [Finset.sum_mul]
    exact Finset.sum_congr rfl fun c _ => by rw [← Real.exp_add, sub_eq_add_neg]
  have h0 : 0 < ∑ c, Real.exp (L c) := by have := hpos 0; simpa only [sub_zero] using this
  rw [e, Real.log_mul h0.ne' (Real.exp_pos _).ne', Real.log_exp, logSum, sub_eq_add_neg]

/-- What the carried maximum and sum give at the end. -/
theorem add_log {N : ℕ} (hN : 0 < N) (L : Fin N → ℝ) (μ : ℝ) :
    (μ : EReal) + Ideal.log ((∑ c, Real.exp (L c - μ) : ℝ) : EReal) = (logSum L : ℝ) := by
  rw [log_shifted hN, ← EReal.coe_add]; congr 1; ring

/-- The same taken in one go: shifted by the maximum over a row, and by the logarithm of the shifted sum. -/
theorem shifted_sub_log {N : ℕ} (hN : 0 < N) (x : Fin N → EReal) (L : Fin N → ℝ) (hx : ∀ c, x c = L c) (j : Fin N) :
    (x j - max ⊥ (Finset.univ.fold max ⊥ x)) - Ideal.log (0 + ∑ c, Ideal.exp (x c - max ⊥ (Finset.univ.fold max ⊥ x)))
      = (L j : EReal) - (logSum L : ℝ) := by
  obtain ⟨μ, hμ⟩ := fold_max_real Finset.univ ⊥ x bot_ne_top (fun c _ => by rw [hx]; exact EReal.coe_ne_top _)
    (.inr ⟨⟨0, hN⟩, Finset.mem_univ _, by rw [hx]; exact EReal.coe_ne_bot _⟩)
  have hs : ∑ c, Ideal.exp (x c - μ) = ((∑ c, Real.exp (L c - μ) : ℝ) : EReal) := by
    rw [← coe_sum]
    exact Finset.sum_congr rfl fun c _ => by rw [hx, exp_sub_coe]
  rw [hμ, hs, zero_add, log_shifted hN, hx, ← EReal.coe_sub, ← EReal.coe_sub, ← EReal.coe_sub]
  congr 1; ring

end Cert.Proof.Shared
-- ==== Proof.Value.Payloads.lean ====
/-
  The arithmetic of the two TensorCore passes read at an index, over the extended reals: a row's hidden vector, chosen
  from the halves of its gathered row, times a block of the weights, plus the bias, `⊥` beyond the last column.
-/
module

public import proofs.«01_k».proof.Proof.KernelIdeal.Pass2
public import proofs.«01_k».proof.Proof.Shared.LogSum
public import Idealize.ShloMosaic.Lib.Pointwise

@[expose] public section

noncomputable section

namespace Cert.Proof.Value

open Cert.KernelIdeal Cert.KernelIdeal.Gen Cert.Proof.Shared Cert.Proof.RunKernelIdeal
open Idealize.ShloMosaic
open scoped BigOperators

variable (w : Vec Ideal S1024x128 .f32) (p : Vec Ideal S1024x1 .i32) (W : Vec Ideal S64x4096 .f32) (b : Vec Ideal S1x4096 .f32)

/-- The hidden vector of row `r`, from the half of its gathered row that the parity word names. -/
def hidden (r : Fin 1024) (k : Fin 64) : EReal :=
  if p (ix2 r 0) = 1#32 then w (ix2 r ⟨64 + k.val, by omega⟩) else w (ix2 r ⟨k.val, by omega⟩)

/-- A row's product with a column of the block. -/
def product (r : Fin 1024) (j : Fin 4096) : EReal := ∑ k, hidden w p r k * W (ix2 k j)

theorem select_apply_eq {α : Type} (v c : BitVec 32) (x y : α) : Scalar.select (IntOp.cmpi .eq v c) x y = if v = c then x else y := by
  have e : IntOp.cmpi .eq v c = BitVec.ofBool (v == c) := rfl
  unfold Scalar.select
  by_cases h : v = c
  · subst h; rw [if_pos rfl, if_pos (by rw [e, beq_self_eq_true]; rfl)]
  · rw [if_neg h, if_neg (by rw [e, beq_eq_false_iff_ne.mpr h]; decide)]

/-- The column a step's word counts is one of the array's. -/
theorem column_lt (n j : ℕ) (hn : n < 25) (hj : j < 4096) :
    IntOp.cmpi .slt (IntOp.addi (BitVec.ofNat 32 j) (Scalar.muli (BitVec.ofNat 32 n) 4096#32)) 100000#32 = 1#1 ↔ n * 4096 + j < 100000 := by
  have e : (IntOp.addi (BitVec.ofNat 32 j) (Scalar.muli (BitVec.ofNat 32 n) 4096#32)).toNat = n * 4096 + j := by
    show (BitVec.ofNat 32 j + BitVec.ofNat 32 n * 4096#32).toNat = _
    rw [BitVec.toNat_add, BitVec.toNat_mul, BitVec.toNat_ofNat, BitVec.toNat_ofNat, BitVec.toNat_ofNat]
    omega
  rw [IntOp.cmpi_slt, BitVec.toInt_eq_toNat_cond, BitVec.toInt_eq_toNat_cond, e, BitVec.toNat_ofNat]
  omega

theorem mask_eq : (Named.named (F := Ideal) κ "mask" (0xF149F2CA#32 : BitVec 32) : Ideal .f32) = (⊥ : EReal) :=
  IdealRules.named_const.ideal_named_scalar κ "mask" _ _ rfl

theorem negInf_bf16 : Ideal.ofBits .bf16 0xFF80#16 = ⊥ := by simp [Ideal.ofBits, Ideal.ieee]

theorem maskedLogits_apply (i : grid1.Coords) (r : Fin 1024) (j : Fin 4096) :
    maskedLogits (F := Ideal) i w p W b (ix2 r j)
      = product w p W r j + if (i 0).val * 4096 + j.val < 100000 then b (ix2 0 j) else ⊥ := by
  unfold maskedLogits k1_pay6
  pointwise
  have hc := column_lt (i 0).val j.val (i 0).isLt j.isLt
  have hp : ∀ k : Fin 64, Scalar.select (IntOp.cmpi .eq (p (ix2 r 0)) 1#32) (w (ix2 r ⟨64 + k.val, by omega⟩)) (w (ix2 r ⟨k.val, by omega⟩))
      = hidden w p r k := fun k => select_apply_eq _ _ _ _
  simp only [hp, mask_eq]
  unfold Scalar.select product
  by_cases h : (i 0).val * 4096 + j.val < 100000
  · rw [if_pos h]; congr 1; exact if_pos (hc.mpr h)
  · rw [if_neg h]; congr 1; exact if_neg fun h' => h (hc.mp h')

/-- A vector as a column, at an index. -/
theorem shapeCast_column {α : Type} {m : ℕ} (x : (⟨1, ![m]⟩ : Shape).Idx → α) (h : (⟨1, ![m]⟩ : Shape).ShapeCasts ⟨2, ![m, 1]⟩) (r : Fin m) :
    shapeCast ⟨2, ![m, 1]⟩ x h (ix2 r 0) = x (ix1 r) := by
  refine shapeCast_apply x h (ix2 r 0) (ix1 r) ?_
  rw [Shape.rowMajor_val_two, Shape.rowMajor_val_one]
  show (r : ℕ) = r * 1 + 0
  omega

/-- A row's greatest entry, at any sizes. -/
theorem rowMax_apply {m n : ℕ} (X : FVec Ideal ⟨2, ![m, n]⟩ .bf16) (h : (⟨2, ![m, n]⟩ : Shape).Reduces [1] ⟨1, ![m]⟩)
    (hφ : FKind.Formats .bf16) (hacc : (0xFF80#16 : BitVec (FTy.bf16).bits) = FKind.maximumf.neutral .bf16 hφ) (r : Fin m) :
    multiReduction .maximumf [1] ⟨1, ![m]⟩ X 0xFF80#16 h hφ hacc (ix1 r) = Finset.univ.fold max ⊥ fun j => X (ix2 r j) := by
  rw [multiReduction_maximumf_eq_fold, h.fold_fiber_r2_a1]
  show Finset.fold max (Ideal.ofBits .bf16 0xFF80#16) _ _ = _
  rw [negInf_bf16]
  rfl

/-- The new maximum over the masked logits, spelt as one term over them. -/
theorem newMax_eq (i : grid1.Coords) (M : Vec Ideal S1024x1 .f32) :
    newMax (F := Ideal) i w p W b M = maximumf M (extf .f32 (shapeCast S1024x1
      (multiReduction .maximumf [1] S1024 (maskedLogits (F := Ideal) i w p W b) 0xFF80#16 reduces_S1024x4096_S1024 (.inr rfl) rfl)
      shapeCasts_S1024_S1024x1) bitsLt_bf16_f32) := by
  unfold newMax k1_pay7 maskedLogits; rfl

theorem column_apply (X : FVec Ideal S1024x4096 .bf16) (r : Fin 1024) :
    shapeCast S1024x1 (multiReduction .maximumf [1] S1024 X 0xFF80#16 reduces_S1024x4096_S1024 (.inr rfl) rfl) shapeCasts_S1024_S1024x1 (ix2 r 0)
      = (multiReduction .maximumf [1] S1024 X 0xFF80#16 reduces_S1024x4096_S1024 (.inr rfl) rfl) (ix1 r) :=
  shapeCast_column (multiReduction .maximumf [1] S1024 X 0xFF80#16 reduces_S1024x4096_S1024 (.inr rfl) rfl) shapeCasts_S1024_S1024x1 r

theorem greatest_apply (X : FVec Ideal S1024x4096 .bf16) (r : Fin 1024) :
    (multiReduction .maximumf [1] S1024 X 0xFF80#16 reduces_S1024x4096_S1024 (.inr rfl) rfl) (ix1 r)
      = Finset.univ.fold max (⊥ : EReal) fun j => X (ix2 r j) :=
  rowMax_apply X reduces_S1024x4096_S1024 (.inr rfl) rfl r

theorem maximumf_extf_apply (M : Vec Ideal S1024x1 .f32) (Y : FVec Ideal S1024x1 .bf16) (r : Fin 1024) :
    maximumf M (extf .f32 Y bitsLt_bf16_f32) (ix2 r 0) = max (M (ix2 r 0)) (Y (ix2 r 0)) := rfl

theorem newMax_apply (i : grid1.Coords) (M : Vec Ideal S1024x1 .f32) (r : Fin 1024) :
    newMax (F := Ideal) i w p W b M (ix2 r 0)
      = max (M (ix2 r 0)) (Finset.univ.fold max ⊥ fun j => maskedLogits (F := Ideal) i w p W b (ix2 r j)) := by
  rw [newMax_eq, maximumf_extf_apply, column_apply, greatest_apply]

theorem newSum_apply (i : grid1.Coords) (M S : Vec Ideal S1024x1 .f32) (r : Fin 1024) :
    newSum (F := Ideal) i w p W b M S (ix2 r 0)
      = S (ix2 r 0) * Ideal.exp (M (ix2 r 0) - newMax (F := Ideal) i w p W b M (ix2 r 0))
        + ∑ j, Ideal.exp (maskedLogits (F := Ideal) i w p W b (ix2 r j) - newMax (F := Ideal) i w p W b M (ix2 r 0)) := by
  unfold newSum k1_pay1
  pointwise

theorem blockOut_apply (l : Vec Ideal S1024x1 .f32) (r : Fin 1024) (j : Fin 4096) :
    blockOut (F := Ideal) w p W b l (ix2 r j) = (product w p W r j + b (ix2 0 j)) - l (ix2 r 0) := by
  unfold blockOut k2_pay1
  pointwise
  have hp : ∀ k : Fin 64, Scalar.select (IntOp.cmpi .eq (p (ix2 r 0)) 1#32) (w (ix2 r ⟨64 + k.val, by omega⟩)) (w (ix2 r ⟨k.val, by omega⟩))
      = hidden w p r k := fun k => select_apply_eq _ _ _ _
  simp only [hp]
  rfl

theorem nextMax_apply (t : Fin grid1.N) (M : Vec Ideal S1024x1 .f32) (r : Fin 1024) :
    nextMax (F := Ideal) t w p W b M (ix2 r 0)
      = max (if t.val = 0 then ⊥ else M (ix2 r 0)) (Finset.univ.fold max ⊥ fun j => maskedLogits (F := Ideal) (grid1.coords t) w p W b (ix2 r j)) := by
  unfold nextMax k1_pay2
  rw [shapeCast_self, newMax_apply]
  congr 1
  split
  · unfold k1_pay4; pointwise; exact mask_eq
  · rfl

theorem nextSum_apply (t : Fin grid1.N) (M S : Vec Ideal S1024x1 .f32) (r : Fin 1024) :
    nextSum (F := Ideal) t w p W b M S (ix2 r 0)
      = (if t.val = 0 then 0 else S (ix2 r 0))
          * Ideal.exp ((if t.val = 0 then ⊥ else M (ix2 r 0)) - nextMax (F := Ideal) t w p W b M (ix2 r 0))
        + ∑ j, Ideal.exp (maskedLogits (F := Ideal) (grid1.coords t) w p W b (ix2 r j) - nextMax (F := Ideal) t w p W b M (ix2 r 0)) := by
  unfold nextSum nextMax k1_pay2
  rw [shapeCast_self, newSum_apply]
  by_cases h : t.val = 0
  · simp only [if_pos h]
    have e4 : (k1_pay4 (F := Ideal)) (ix2 r 0) = (⊥ : EReal) := by unfold k1_pay4; pointwise; exact mask_eq
    have e5 : (k1_pay5 (F := Ideal)) (ix2 r 0) = (0 : EReal) := by unfold k1_pay5; pointwise
    rw [e4, e5]
  · simp only [if_neg h]

theorem logSum_apply (M S : Vec Ideal S1024x1 .f32) (r : Fin 1024) :
    k1_pay3 (F := Ideal) M S (ix2 r 0) = M (ix2 r 0) + Ideal.log (S (ix2 r 0)) := rfl

end Cert.Proof.Value

end
-- ==== Proof.Value.Staged.lean ====
/-
  What a fetch leaves in a staging buffer, at an index: the array's entry the block places there, where the block lies in
  the array. Then the windows of the two passes, each by its coordinates.
-/
module

public import proofs.«01_k».proof.Proof.KernelIdeal.Pass2
public import Idealize.ShloMosaic.Lib.Pipeline.ValueKit
public import Idealize.ShloMosaic.Lib.Pointwise

@[expose] public section

noncomputable section

namespace Cert.Proof.Value

open Cert.KernelIdeal Cert.KernelIdeal.Gen Cert.Proof.Shared Cert.Proof.RunKernelIdeal
open Idealize.ShloMosaic Idealize.ShloMosaic.TcCoe
open scoped BigOperators

variable {F : FTy → Type} [FloatOps F] [Named F]

/-- An entry of a staged block that the transfer moved is the array's. -/
theorem staged_apply {g : Pipeline.Grid} (win : Pipeline.Window sig g) (c : Dev nD) (t : Fin g.N)
    (A : Buf (Elt F) (win.arr.view.loc (c.tc : Thread nD τ))) (X : win.block.Idx → Elt F win.elt) (h : Staged win c t A X)
    (hk : win.kind = .blocked) (j : win.block.Idx) (i : win.shape.Idx)
    (hj : ∀ a, (j a : ℕ) < win.xsize (g.coords t) a) (hi : ∀ a, (i a : ℕ) = win.index t a * win.size a + j a) :
    X j = cast (congrArg (Elt F) win.arr.view.elt_eq) (A (win.arr.view.emb i)) := by
  obtain ⟨d, rfl⟩ := h
  have hm := (win.moved_iff (g.coords t) j).mpr hj
  unfold Pipeline.Window.fill
  rw [dif_pos hm]
  have e : (win.rect t).emb (fun a => ⟨(j a).val, hj a⟩) = i := by
    funext a; apply Fin.ext
    rw [win.rect_emb_val t _ a hk, hi a]
  rw [← e]
  rfl

theorem coords1 : ∀ t : Fin grid1.N, (grid1.coords t 0 : ℕ) = t := by decide

theorem coords2 : ∀ t : Fin grid2.N, (grid2.coords t 0 : ℕ) = t := by decide

/-! The windows whose block is their array. -/

theorem whole1_0 : ∀ t : Fin grid1.N, ∀ a, win1_0.index t a = 0 ∧ win1_0.xsize (grid1.coords t) a = win1_0.shape.size a := by decide +kernel
theorem whole1_1 : ∀ t : Fin grid1.N, ∀ a, win1_1.index t a = 0 ∧ win1_1.xsize (grid1.coords t) a = win1_1.shape.size a := by decide +kernel
theorem whole2_0 : ∀ t : Fin grid2.N, ∀ a, win2_0.index t a = 0 ∧ win2_0.xsize (grid2.coords t) a = win2_0.shape.size a := by decide +kernel
theorem whole2_1 : ∀ t : Fin grid2.N, ∀ a, win2_1.index t a = 0 ∧ win2_1.xsize (grid2.coords t) a = win2_1.shape.size a := by decide +kernel
theorem whole2_4 : ∀ t : Fin grid2.N, ∀ a, win2_4.index t a = 0 ∧ win2_4.xsize (grid2.coords t) a = win2_4.shape.size a := by decide +kernel

/-! The windows of the weights and of the bias: a block of 4096 columns, cut at the last column. -/

theorem cut1_2 : ∀ t : Fin grid1.N, win1_2.index t 0 = 0 ∧ win1_2.index t 1 = t ∧ win1_2.xsize (grid1.coords t) 0 = 64
    ∧ win1_2.xsize (grid1.coords t) 1 = min 4096 (100000 - t.val * 4096) := by decide +kernel
theorem cut1_3 : ∀ t : Fin grid1.N, win1_3.index t 0 = 0 ∧ win1_3.index t 1 = t ∧ win1_3.xsize (grid1.coords t) 0 = 1
    ∧ win1_3.xsize (grid1.coords t) 1 = min 4096 (100000 - t.val * 4096) := by decide +kernel
theorem cut2_2 : ∀ t : Fin grid2.N, win2_2.index t 0 = 0 ∧ win2_2.index t 1 = t ∧ win2_2.xsize (grid2.coords t) 0 = 64
    ∧ win2_2.xsize (grid2.coords t) 1 = min 4096 (100000 - t.val * 4096) := by decide +kernel
theorem cut2_3 : ∀ t : Fin grid2.N, win2_3.index t 0 = 0 ∧ win2_3.index t 1 = t ∧ win2_3.xsize (grid2.coords t) 0 = 1
    ∧ win2_3.xsize (grid2.coords t) 1 = min 4096 (100000 - t.val * 4096) := by decide +kernel

theorem lt_cut {n j : ℕ} (hj : j < 4096) (h : n * 4096 + j < 100000) : j < min 4096 (100000 - n * 4096) := by omega

section

variable (c : Dev nD)

theorem staged1_0 {t : Fin grid1.N} {A X : Vec F S1024x128 .f32} (h : Staged win1_0 c t A X) : X = A :=
  funext fun j => staged_apply win1_0 c t A X h rfl j j (fun a => by rw [(whole1_0 t a).2]; exact (j a).isLt)
    fun a => by rw [(whole1_0 t a).1, Nat.zero_mul, Nat.zero_add]
theorem staged1_1 {t : Fin grid1.N} {A X : Vec F S1024x1 .i32} (h : Staged win1_1 c t A X) : X = A :=
  funext fun j => staged_apply win1_1 c t A X h rfl j j (fun a => by rw [(whole1_1 t a).2]; exact (j a).isLt)
    fun a => by rw [(whole1_1 t a).1, Nat.zero_mul, Nat.zero_add]
theorem staged2_0 {t : Fin grid2.N} {A X : Vec F S1024x128 .f32} (h : Staged win2_0 c t A X) : X = A :=
  funext fun j => staged_apply win2_0 c t A X h rfl j j (fun a => by rw [(whole2_0 t a).2]; exact (j a).isLt)
    fun a => by rw [(whole2_0 t a).1, Nat.zero_mul, Nat.zero_add]
theorem staged2_1 {t : Fin grid2.N} {A X : Vec F S1024x1 .i32} (h : Staged win2_1 c t A X) : X = A :=
  funext fun j => staged_apply win2_1 c t A X h rfl j j (fun a => by rw [(whole2_1 t a).2]; exact (j a).isLt)
    fun a => by rw [(whole2_1 t a).1, Nat.zero_mul, Nat.zero_add]
theorem staged2_4 {t : Fin grid2.N} {A X : Vec F S1024x1 .f32} (h : Staged win2_4 c t A X) : X = A :=
  funext fun j => staged_apply win2_4 c t A X h rfl j j (fun a => by rw [(whole2_4 t a).2]; exact (j a).isLt)
    fun a => by rw [(whole2_4 t a).1, Nat.zero_mul, Nat.zero_add]

/-- A column of a block lies in the part that the transfer moved, -/
theorem columns_lt {n t : ℕ} (k : Fin n) (j : Fin 4096) (hj : t * 4096 + j.val < 100000) {x : Fin 2 → ℕ} (h0 : x 0 = n)
    (h1 : x 1 = min 4096 (100000 - t * 4096)) : ∀ a : Fin 2, (ix2 k j a : ℕ) < x a
  | ⟨0, _⟩ => lt_of_lt_of_eq k.isLt h0.symm
  | ⟨1, _⟩ => lt_of_lt_of_eq (lt_cut j.isLt hj) h1.symm

/-- and is the array's column at the block's offset. -/
theorem columns_at {n t : ℕ} (k : Fin n) (j : Fin 4096) (hj : t * 4096 + j.val < 100000) {i s : Fin 2 → ℕ} (h0 : i 0 = 0) (h1 : i 1 = t)
    (hs : s 1 = 4096) : ∀ a : Fin 2, (ix2 k (⟨t * 4096 + j.val, hj⟩ : Fin 100000) a : ℕ) = i a * s a + (ix2 k j a : ℕ)
  | ⟨0, _⟩ => by show k.val = i 0 * s 0 + k.val; rw [h0]; omega
  | ⟨1, _⟩ => by show t * 4096 + j.val = i 1 * s 1 + j.val; rw [h1, hs]

/-! A block of columns at a column of the array. -/

theorem staged1_2 {t : Fin grid1.N} {A : Vec F S64x100000 .f32} {X : Vec F S64x4096 .f32} (h : Staged win1_2 c t A X)
    (k : Fin 64) (j : Fin 4096) (hj : t.val * 4096 + j.val < 100000) : X (ix2 k j) = A (ix2 k ⟨t.val * 4096 + j.val, hj⟩) :=
  staged_apply win1_2 c t A X h rfl (ix2 k j) (ix2 k ⟨t.val * 4096 + j.val, hj⟩)
    (columns_lt k j hj (cut1_2 t).2.2.1 (cut1_2 t).2.2.2) (columns_at k j hj (cut1_2 t).1 (cut1_2 t).2.1 rfl)
theorem staged1_3 {t : Fin grid1.N} {A : Vec F S1x100000 .f32} {X : Vec F S1x4096 .f32} (h : Staged win1_3 c t A X)
    (k : Fin 1) (j : Fin 4096) (hj : t.val * 4096 + j.val < 100000) : X (ix2 k j) = A (ix2 k ⟨t.val * 4096 + j.val, hj⟩) :=
  staged_apply win1_3 c t A X h rfl (ix2 k j) (ix2 k ⟨t.val * 4096 + j.val, hj⟩)
    (columns_lt k j hj (cut1_3 t).2.2.1 (cut1_3 t).2.2.2) (columns_at k j hj (cut1_3 t).1 (cut1_3 t).2.1 rfl)
theorem staged2_2 {t : Fin grid2.N} {A : Vec F S64x100000 .f32} {X : Vec F S64x4096 .f32} (h : Staged win2_2 c t A X)
    (k : Fin 64) (j : Fin 4096) (hj : t.val * 4096 + j.val < 100000) : X (ix2 k j) = A (ix2 k ⟨t.val * 4096 + j.val, hj⟩) :=
  staged_apply win2_2 c t A X h rfl (ix2 k j) (ix2 k ⟨t.val * 4096 + j.val, hj⟩)
    (columns_lt k j hj (cut2_2 t).2.2.1 (cut2_2 t).2.2.2) (columns_at k j hj (cut2_2 t).1 (cut2_2 t).2.1 rfl)
theorem staged2_3 {t : Fin grid2.N} {A : Vec F S1x100000 .f32} {X : Vec F S1x4096 .f32} (h : Staged win2_3 c t A X)
    (k : Fin 1) (j : Fin 4096) (hj : t.val * 4096 + j.val < 100000) : X (ix2 k j) = A (ix2 k ⟨t.val * 4096 + j.val, hj⟩) :=
  staged_apply win2_3 c t A X h rfl (ix2 k j) (ix2 k ⟨t.val * 4096 + j.val, hj⟩)
    (columns_lt k j hj (cut2_3 t).2.2.1 (cut2_3 t).2.2.2) (columns_at k j hj (cut2_3 t).1 (cut2_3 t).2.1 rfl)

end

end Cert.Proof.Value

end
-- ==== Proof.Value.Passes.lean ====
/-
  What the two TensorCore passes compute: the first, for each row, the logarithm of the sum of the exponentials of the
  row's 100,000 logits; the second each logit less that logarithm. What the staging buffers hold beyond the last column
  reaches neither.
-/
module

public import proofs.«01_k».proof.Proof.Value.Payloads
public import proofs.«01_k».proof.Proof.Value.Staged

@[expose] public section

noncomputable section

namespace Cert.Proof.Value

open Cert.KernelIdeal Cert.KernelIdeal.Gen Cert.Proof.Shared Cert.Proof.RunKernelIdeal
open Idealize.ShloMosaic Idealize.ShloMosaic.TcCoe
open scoped BigOperators

/-- A row's logits as a sequence, zero beyond the last. -/
def extended (L : Fin 100000 → ℝ) (n : ℕ) : ℝ := if h : n < 100000 then L ⟨n, h⟩ else 0

theorem extended_of_lt (L : Fin 100000 → ℝ) {n : ℕ} (h : n < 100000) : extended L n = L ⟨n, h⟩ := dif_pos h

variable (c : Dev nD) (V : Contents nD τ sig (Elt Ideal) c)

/-- The buffers' logits are the real numbers `L`. -/
def HasLogits (L : Fin 1024 → Fin 100000 → ℝ) : Prop :=
  ∀ (r : Fin 1024) (j : Fin 100000),
    (∑ k : Fin 64, hidden (V main_v5) (V main_v3) r k * (V main_v7 : Vec Ideal S64x100000 .f32) (ix2 k j))
      + (V main_v6 : Vec Ideal S1x100000 .f32) (ix2 0 j) = (L r j : EReal)

variable {c V} {L : Fin 1024 → Fin 100000 → ℝ} (hL : HasLogits c V L)
include hL

/-- The first pass's masked logits. -/
theorem masked_eq (t : Fin grid1.N) {w : Vec Ideal S1024x128 .f32} {p : Vec Ideal S1024x1 .i32} {W : Vec Ideal S64x4096 .f32}
    {b : Vec Ideal S1x4096 .f32} (hw : Staged win1_0 c t (V main_v5) w) (hp : Staged win1_1 c t (V main_v3) p)
    (hW : Staged win1_2 c t (V main_v7) W) (hb : Staged win1_3 c t (V main_v6) b) (r : Fin 1024) (j : Fin 4096) :
    maskedLogits (F := Ideal) (grid1.coords t) w p W b (ix2 r j)
      = if t.val * 4096 + j.val < 100000 then (extended (L r) (t.val * 4096 + j.val) : EReal) else ⊥ := by
  rw [maskedLogits_apply, coords1]
  obtain rfl := staged1_0 c hw
  obtain rfl := staged1_1 c hp
  by_cases h : t.val * 4096 + j.val < 100000
  · rw [if_pos h, if_pos h, extended_of_lt _ h, ← hL r ⟨_, h⟩, staged1_3 c hb 0 j h]
    unfold product
    congr 1
    exact Finset.sum_congr rfl fun k _ => by rw [staged1_2 c hW k j h]
  · rw [if_neg h, if_neg h, EReal.add_bot]

/-- What the two carried columns hold after the step at point `n`. -/
theorem carried_eq (n : ℕ) {M S : Vec Ideal S1024x1 .f32} (h : Carried c V (n + 1) M S) (r : Fin 1024) :
    ∃ μ : ℝ, M (ix2 r 0) = (μ : EReal) ∧ S (ix2 r 0) = (partialSum 100000 (extended (L r)) μ ((n + 1) * 4096) : EReal) := by
  induction n generalizing M S with
  | zero =>
    obtain ⟨hn, M₀, S₀, w, p, W, b, -, hw, hp, hW, hb, rfl, rfl⟩ := h
    have key := block_step 100000 4096 (0 * 4096) (extended (L r)) _ (masked_eq hL ⟨0, hn⟩ hw hp hW hb r) ⊥ 0 _
      (nextMax_apply w p W b ⟨0, hn⟩ M₀ r) (.inr ⟨rfl, rfl, rfl, by norm_num, by norm_num⟩)
    obtain ⟨μ, h1, h2⟩ := key
    refine ⟨μ, h1, ?_⟩
    rw [Nat.add_mul, Nat.one_mul, ← h2, nextSum_apply, if_pos rfl, if_pos rfl]
  | succ n ih =>
    obtain ⟨hn, M₀, S₀, w, p, W, b, h0, hw, hp, hW, hb, rfl, rfl⟩ := h
    obtain ⟨μ₀, hM, hS⟩ := ih h0
    have hne : ¬ (⟨n + 1, hn⟩ : Fin grid1.N).val = 0 := Nat.succ_ne_zero n
    have hmax := nextMax_apply w p W b ⟨n + 1, hn⟩ M₀ r
    rw [if_neg hne] at hmax
    obtain ⟨μ, h1, h2⟩ := block_step 100000 4096 ((n + 1) * 4096) (extended (L r)) _ (masked_eq hL ⟨n + 1, hn⟩ hw hp hW hb r) _ _ _
      hmax (.inl ⟨μ₀, hM, hS⟩)
    refine ⟨μ, h1, ?_⟩
    rw [Nat.add_mul (n + 1) 1, Nat.one_mul, ← h2, nextSum_apply, if_neg hne, if_neg hne]

/-- The first pass's result. -/
theorem logSum_eq {X : Vec Ideal S1024x1 .f32} (h : LogSum c V X) (r : Fin 1024) : X (ix2 r 0) = (logSum (L r) : EReal) := by
  obtain ⟨M, S, hC, rfl⟩ := h
  obtain ⟨μ, hM, hS⟩ := carried_eq hL 24 hC r
  rw [logSum_apply, hM, hS, partialSum_whole _ _ _ _ (by norm_num)]
  have e : ∀ j : Fin 100000, extended (L r) j = L r j := fun j => extended_of_lt _ j.isLt
  simp only [e]
  exact add_log (by norm_num) (L r) μ

/-- The second pass's block. -/
theorem block_eq (t : Fin grid2.N) {X : Vec Ideal S1024x4096 .bf16} (h : Block c V t X) (r : Fin 1024) (j : Fin 4096)
    (hj : t.val * 4096 + j.val < 100000) :
    X (ix2 r j) = (L r ⟨t.val * 4096 + j.val, hj⟩ : EReal) - (V main_v8 : Vec Ideal S1024x1 .f32) (ix2 r 0) := by
  obtain ⟨w, p, W, b, l, hw, hp, hW, hb, hl, rfl⟩ := h
  obtain rfl := staged2_0 c hw
  obtain rfl := staged2_1 c hp
  obtain rfl := staged2_4 c hl
  rw [blockOut_apply, ← hL r ⟨_, hj⟩, staged2_3 c hb 0 j hj]
  unfold product
  congr 2
  exact Finset.sum_congr rfl fun k _ => by rw [staged2_2 c hW k j hj]

end Cert.Proof.Value

end
-- ==== Proof.Shared.Entries.lean ====
/-
  A property of every entry of an output array that blocks cover: it has it if every entry that a write-back may move has
  it. Stated for any program, and for a relation between what the body finds and what it leaves.
-/
module

public import Idealize.ShloMosaic.Lib.Pipeline.ArrRel

@[expose] public section

noncomputable section

namespace Cert.Proof.Shared

open Idealize.ShloMosaic Idealize.ShloMosaic.TcCoe Idealize.ShloMosaic.Pipeline
open Idealize.SL Idealize.SL.RA Idealize.SL.Sem

variable {nD : Nat} {τ : Topo} {sig : RefSig} {Val : EltTy → Type} {Λ₀ : Labels}
variable {Ix : Type} [DecidableEq Ix] {Name : Type} [DecidableEq Name] {U : Type} [URA U] {Lvl : Type}
variable {cfg : Cfg sig Λ₀} {c : Dev nD} {rd : RDat τ Val Ix Name U Lvl cfg c}

theorem entries_of_covers [∀ e, Nonempty (Val e)] {w : Fin cfg.W} {G : Buf Val ((cfg.win w).arr.view.loc (c.tc : Thread nD τ))}
    (hG : rd.ArrAt w cfg.N G)
    (P : ((cfg.win w).arr.view.loc (c.tc : Thread nD τ)).2.ty.Idx → Val ((cfg.win w).arr.view.loc (c.tc : Thread nD τ)).2.ty.elt → Prop)
    (hcov : (cfg.win w).Covers) (harr : (cfg.win w).arr.IsWhole)
    (hP : ∀ t X, rd.Leaves w t X → ∀ y : ((cfg.win w).xblock (cfg.grid.coords t)).Idx,
      P (((cfg.win w).blk t).view.emb y)
        (_root_.cast (congrArg Val ((cfg.win w).blk t).view.elt_eq.symm) (X ((cfg.win w).xinj (cfg.grid.coords t) y))))
    (i : ((cfg.win w).arr.view.loc (c.tc : Thread nD τ)).2.ty.Idx) : P i (G i) := by
  obtain ⟨X, hX, e⟩ := hG.exists_exact
  rw [e (Function.update (fun _ _ _ => Classical.arbitrary _) w X) fun u _ _ => by rw [Function.update_self]]
  refine Dat.arrAt_forall_of_covers _ w P hcov (fun t hf y => ?_) i harr
  rw [RDat.withAfter_after, Function.update_self]
  exact hP t (X t) (hX t t.isLt hf) y

end Cert.Proof.Shared

end
-- ==== Proof.Value.Regions.lean ====
/-
  What the two TensorCore passes leave in their arrays: the inputs as they were, in the first's output each row's log-sum,
  and in the second's, over every column, the logit less it.
-/
module

public import proofs.«01_k».proof.Proof.Value.Passes
public import proofs.«01_k».proof.Proof.KernelIdeal.Run
public import proofs.«01_k».proof.Proof.Shared.Entries

@[expose] public section

noncomputable section

namespace Cert.Proof.Value

open Cert.KernelIdeal Cert.KernelIdeal.Gen Cert.Proof.Shared Cert.Proof.RunKernelIdeal
open Idealize.ShloMosaic Idealize.ShloMosaic.TcCoe Idealize.ShloMosaic.StableHlo
open Idealize.ShloMosaic.Pipeline (RDat Dat)
open scoped BigOperators

variable {d : Dev nD} {W W' : Valuation τ sig (Elt Ideal)}

/-- The buffers of `W`, by reference. -/
abbrev byRef (W : Valuation τ sig (Elt Ideal)) (d : Dev nD) : Contents nD τ sig (Elt Ideal) d := fun b => W b

/-- The first pass keeps its inputs. -/
theorem pass1_in (h : Leaves 0 d W W') : W' main_v5 = W main_v5 ∧ W' main_v3 = W main_v3 ∧ W' main_v7 = W main_v7 ∧ W' main_v6 = W main_v6 := by
  refine ⟨?_, ?_, ?_, ?_⟩
  · exact (congrFun (RDat.ArrAt_in (rd1 d (byRef W d)) 0 rfl cfg1.N) _).mp (h.1 0)
  · exact (congrFun (RDat.ArrAt_in (rd1 d (byRef W d)) 1 rfl cfg1.N) _).mp (h.1 1)
  · exact (congrFun (RDat.ArrAt_in (rd1 d (byRef W d)) 2 rfl cfg1.N) _).mp (h.1 2)
  · exact (congrFun (RDat.ArrAt_in (rd1 d (byRef W d)) 3 rfl cfg1.N) _).mp (h.1 3)

theorem pass1_whole : win1_4.WholeAt (⟨24, by decide⟩ : Fin grid1.N) := by decide +kernel

/-- The first pass's output. -/
theorem pass1_out (h : Leaves 0 d W W') : LogSum d (byRef W d) (W' main_v8) := by
  have hA : (rd1 d (byRef W d)).ArrAt 4 cfg1.N (W' main_v8) := h.1 4
  obtain ⟨X, ⟨Y, -, hX⟩, hj⟩ := RDat.ArrAt.emb_eq_of_wholeAt hA pass1_whole
  have e : (W' main_v8 : Vec Ideal S1024x1 .f32) = X := funext fun j => hj j
  rw [show (W' main_v8 : Vec Ideal S1024x1 .f32) = X from e]
  exact hX rfl

theorem pass2_covers : win2_5.Covers := by decide +kernel

theorem cut2_5 : ∀ t : Fin grid2.N, win2_5.index t 0 = 0 ∧ win2_5.index t 1 = t ∧ win2_5.xsize (grid2.coords t) 0 = 1024
    ∧ win2_5.xsize (grid2.coords t) 1 = min 4096 (100000 - t.val * 4096) := by decide +kernel

theorem cut_lt {n j : ℕ} (h : j < min 4096 (100000 - n * 4096)) : j < 4096 ∧ n * 4096 + j < 100000 := by omega

/-- An index of what a write-back moves, as one of the block. -/
theorem moved_index (t : Fin grid2.N) (y : (win2_5.xblock (grid2.coords t)).Idx) (b0 : (y 0).val < 1024) (b1 : (y 1).val < 4096) :
    (win2_5.xinj (grid2.coords t) y : S1024x4096.Idx) = ix2 ⟨(y 0).val, b0⟩ ⟨(y 1).val, b1⟩ :=
  funext fun a => match a with
    | ⟨0, _⟩ => rfl
    | ⟨1, _⟩ => rfl

/-- The second pass's output: every entry is one of a block. -/
theorem pass2_out (h : Leaves 1 d W W') (i : S1024x100000.Idx) :
    ∃ (t : Fin grid2.N) (X : Vec Ideal S1024x4096 .bf16) (r : Fin 1024) (j : Fin 4096) (hj : t.val * 4096 + j.val < 100000),
      Block d (byRef W d) t X ∧ i = ix2 r ⟨t.val * 4096 + j.val, hj⟩ ∧ (W' main_v9 : Vec Ideal S1024x100000 .bf16) i = X (ix2 r j) := by
  have hA : (rd2 d (byRef W d)).ArrAt 5 cfg2.N (W' main_v9) := h.1 5
  refine entries_of_covers hA
    (fun i v => ∃ (t : Fin grid2.N) (X : Vec Ideal S1024x4096 .bf16) (r : Fin 1024) (j : Fin 4096) (hj : t.val * 4096 + j.val < 100000),
      Block d (byRef W d) t X ∧ i = ix2 r ⟨t.val * 4096 + j.val, hj⟩ ∧ v = X (ix2 r j)) pass2_covers (Memref.isWhole_whole _)
    (fun t X hX y => ?_) i
  obtain ⟨Y, -, hB⟩ := hX
  obtain ⟨h0, h1, h2, h3⟩ := cut2_5 t
  obtain ⟨b0, b1⟩ := cut_lt (lt_of_lt_of_eq (y 1).isLt h3)
  refine ⟨t, X, ⟨(y 0).val, lt_of_lt_of_eq (y 0).isLt h2⟩, ⟨(y 1).val, b0⟩, b1, hB, ?_, ?_⟩
  · funext a
    apply Fin.ext
    show ((win2_5.rect t).emb y a : ℕ) = _
    rw [win2_5.rect_emb_val t y a rfl]
    match a with
    | ⟨0, _⟩ => show win2_5.index t 0 * 1024 + (y 0).val = (y 0).val; rw [h0]; omega
    | ⟨1, _⟩ => show win2_5.index t 1 * 4096 + (y 1).val = t.val * 4096 + (y 1).val; rw [h1]
  · exact congrArg X (moved_index t y _ _)

end Cert.Proof.Value

end
-- ==== Proof.Shared.Expected.lean ====
/-
  The result both programs are to compute: with the table's row that each id names, the logits against every class, and
  each less the logarithm of the sum of its row's exponentials.
-/
module

public import proofs.«01_k».proof.Proof.Shared.LogSum
public import Idealize.ShloMosaic.Lib.Pointwise

@[expose] public section

noncomputable section

namespace Cert.Proof.Shared

open Idealize.ShloMosaic
open scoped BigOperators

variable (a0 : IVec ⟨1, ![1024]⟩ 32) (a1 a2 : FVec Ideal ⟨2, ![100000, 64]⟩ .f32) (a3 : FVec Ideal ⟨1, ![100000]⟩ .f32)

/-- The row of the table that an id names. -/
def row (x : BitVec 32) : Fin 100000 := ⟨x.toNat % 100000, Nat.mod_lt _ (by decide)⟩

/-- Class `c`'s logit in row `r`. -/
def logit (r : Fin 1024) (c : Fin 100000) : EReal := (∑ k : Fin 64, a1 (ix2 (row (a0 (ix1 r))) k) * a2 (ix2 c k)) + a3 (ix1 c)

/-- The logit as a real number. -/
def logitReal (r : Fin 1024) (c : Fin 100000) : ℝ := (logit a0 a1 a2 a3 r c).toReal

theorem logit_real (h1 : ∀ i, ∃ x : ℝ, a1 i = (x : EReal)) (h2 : ∀ i, ∃ x : ℝ, a2 i = (x : EReal)) (h3 : ∀ i, ∃ x : ℝ, a3 i = (x : EReal))
    (r : Fin 1024) (c : Fin 100000) : logit a0 a1 a2 a3 r c = (logitReal a0 a1 a2 a3 r c : EReal) := by
  choose f1 e1 using h1
  choose f2 e2 using h2
  choose f3 e3 using h3
  have e : logit a0 a1 a2 a3 r c
      = (((∑ k : Fin 64, f1 (ix2 (row (a0 (ix1 r))) k) * f2 (ix2 c k)) + f3 (ix1 c) : ℝ) : EReal) := by
    unfold logit
    rw [EReal.coe_add, ← coe_sum, ← e3]
    congr 1
    exact Finset.sum_congr rfl fun k _ => by rw [e1, e2, EReal.coe_mul]
  rw [logitReal, e, EReal.toReal_coe]

/-- The result. -/
def expected : FVec Ideal ⟨2, ![1024, 100000]⟩ .f32 :=
  fun i => (logitReal a0 a1 a2 a3 (i 0) (i 1) : EReal) - (logSum (logitReal a0 a1 a2 a3 (i 0)) : ℝ)

end Cert.Proof.Shared

end
-- ==== Proof.Value.Result.lean ====
/-
  The kernel's result: the rows the SparseCore call gathers hold, in the half their parity words name, the table's rows,
  so the logits of the two passes are those of the arguments.
-/
module

public import proofs.«01_k».proof.Proof.Value.Regions
public import proofs.«01_k».proof.Proof.Shared.Expected

@[expose] public section

noncomputable section

namespace Cert.Proof.Value

open Cert.KernelIdeal Cert.KernelIdeal.Gen Cert.Proof.Shared Cert.Proof.RunKernelIdeal
open Idealize.ShloMosaic Idealize.ShloMosaic.TcCoe Idealize.ShloMosaic.StableHlo
open scoped BigOperators

/-- The paired table's entry is the table's of the same place. -/
theorem paired_apply (A : Vec Ideal S100000x64 .f32) (q : Fin 50000) (l : Fin 128) (r : Fin 100000) (k : Fin 64)
    (h : r.val * 64 + k.val = q.val * 128 + l.val) :
    shapeCast S50000x128 A shapeCasts_S100000x64_S50000x128 (ix2 q l) = A (ix2 r k) :=
  shapeCast_apply A _ _ _ (by rw [Shape.rowMajor_val_two, Shape.rowMajor_val_two]; exact h)

theorem list_apply {α : Type} (x : S1024.Idx → α) (r : Fin 1024) : shapeCast S1x1024 x shapeCasts_S1024_S1x1024 (ix2 0 r) = x (ix1 r) :=
  shapeCast_apply x _ _ _ (by rw [Shape.rowMajor_val_two, Shape.rowMajor_val_one]; show r.val = 0 * 1024 + r.val; omega)

theorem parity_apply {α : Type} (x : S1024.Idx → α) (r : Fin 1024) : shapeCast S1024x1 x shapeCasts_S1024_S1024x1 (ix2 r 0) = x (ix1 r) :=
  shapeCast_apply x _ _ _ (by rw [Shape.rowMajor_val_two, Shape.rowMajor_val_one]; show r.val = r.val * 1 + 0; omega)

theorem bias_apply (A : Vec Ideal S100000 .f32) (j : Fin 100000) : shapeCast S1x100000 A shapeCasts_S100000_S1x100000 (ix2 0 j) = A (ix1 j) :=
  shapeCast_apply A _ _ _ (by rw [Shape.rowMajor_val_two, Shape.rowMajor_val_one]; show j.val = 0 * 100000 + j.val; omega)

theorem weights_apply (A : Vec Ideal S100000x64 .f32) (k : Fin 64) (j : Fin 100000) :
    transpose S64x100000 [1, 0] A transposes_S100000x64_S64x100000_1_0 (ix2 k j) = A (ix2 j k) := by
  pointwise

/-- The hidden vector is the table's row that the id names. -/
theorem hidden_eq (ids : IVec S1024 32) (A : Vec Ideal S100000x64 .f32) (r : Fin 1024) (h : (ids (ix1 r)).toNat < 100000) (k : Fin 64) :
    hidden (gatheredRows (F := Ideal) (shapeCast S50000x128 A shapeCasts_S100000x64_S50000x128)
        (shapeCast S1x1024 (fun i => halfWord (ids i)) shapeCasts_S1024_S1x1024))
      (shapeCast S1024x1 (fun i => parityWord (ids i)) shapeCasts_S1024_S1024x1) r k = A (ix2 (row (ids (ix1 r))) k) := by
  have hq : (rowIx (halfWord (ids (ix1 r)))).val = (ids (ix1 r)).toNat / 2 := by
    rw [halfWord_eq h]
    show (BitVec.ofNat 32 ((ids (ix1 r)).toNat / 2)).toNat % 50000 = _
    rw [BitVec.toNat_ofNat]; omega
  have hr : (row (ids (ix1 r))).val = (ids (ix1 r)).toNat := Nat.mod_eq_of_lt h
  have hg : ∀ l : Fin 128, gatheredRows (F := Ideal) (shapeCast S50000x128 A shapeCasts_S100000x64_S50000x128)
      (shapeCast S1x1024 (fun i => halfWord (ids i)) shapeCasts_S1024_S1x1024) (ix2 r l)
      = shapeCast S50000x128 A shapeCasts_S100000x64_S50000x128 (ix2 (rowIx (halfWord (ids (ix1 r)))) l) := fun l => by
    show shapeCast S50000x128 A _ (ix2 (rowIx (shapeCast S1x1024 (fun i => halfWord (ids i)) shapeCasts_S1024_S1x1024 (ix2 0 r))) l) = _
    rw [list_apply]
  unfold hidden
  rw [parity_apply, parityWord_eq h, hg, hg]
  rcases Nat.mod_two_eq_zero_or_one (ids (ix1 r)).toNat with e | e
  · rw [e, if_neg (by decide)]
    exact paired_apply A _ _ _ k (by rw [hr, hq]; show _ * 64 + k.val = _ * 128 + k.val; omega)
  · rw [e, if_pos (by decide)]
    exact paired_apply A _ _ _ k (by rw [hr, hq]; show _ * 64 + k.val = _ * 128 + (64 + k.val); omega)

variable (m : (ℓ : Loc nD τ sig) → Buf (Elt Ideal) ℓ) (d : Dev nD)

/-! The passes' inputs when the first begins. -/

theorem atPass1_v5 : atPass1 m d main_v5 = gatheredRows (F := Ideal)
    (shapeCast S50000x128 (m ((d.tc : Thread nD τ).loc main_arg1)) shapeCasts_S100000x64_S50000x128)
    (shapeCast S1x1024 (fun i => halfWord (m ((d.tc : Thread nD τ).loc main_arg0) i)) shapeCasts_S1024_S1x1024) := by
  refine ((between_other _ (by decide)).trans (called_v5 _)).trans ?_
  exact congrArg₂ (gatheredRows (F := Ideal)) (before_v4 _) (before_v1 _)

theorem atPass1_v3 : atPass1 m d main_v3
    = shapeCast S1024x1 (fun i => parityWord (m ((d.tc : Thread nD τ).loc main_arg0) i)) shapeCasts_S1024_S1024x1 :=
  ((between_other _ (by decide)).trans (called_other _ (by decide))).trans (before_v3 _)

theorem atPass1_v7 : atPass1 m d main_v7
    = transpose S64x100000 [1, 0] (m ((d.tc : Thread nD τ).loc main_arg2)) transposes_S100000x64_S64x100000_1_0 := by
  refine (between_v7 _).trans ?_
  rw [show called (atCall m d) main_arg2 = m ((d.tc : Thread nD τ).loc main_arg2) from
    (called_other _ (by decide)).trans (before_arg _ (by decide))]

theorem atPass1_v6 : atPass1 m d main_v6 = shapeCast S1x100000 (m ((d.tc : Thread nD τ).loc main_arg3)) shapeCasts_S100000_S1x100000 := by
  refine (between_v6 _).trans ?_
  rw [show called (atCall m d) main_arg3 = m ((d.tc : Thread nD τ).loc main_arg3) from
    (called_other _ (by decide)).trans (before_arg _ (by decide))]

/-- The expected result at `m`'s arguments. -/
abbrev expectedAt : Vec Ideal S1024x100000 .f32 :=
  expected (m ((d.tc : Thread nD τ).loc main_arg0)) (m ((d.tc : Thread nD τ).loc main_arg1)) (m ((d.tc : Thread nD τ).loc main_arg2))
    (m ((d.tc : Thread nD τ).loc main_arg3))

variable {m d}

/-- The passes' logits are those of the arguments. -/
theorem hasLogits (h0 : ∀ i, (m ((d.tc : Thread nD τ).loc main_arg0) i).toNat < 100000)
    (h1 : ∀ i, ∃ x : ℝ, m ((d.tc : Thread nD τ).loc main_arg1) i = (x : EReal))
    (h2 : ∀ i, ∃ x : ℝ, m ((d.tc : Thread nD τ).loc main_arg2) i = (x : EReal))
    (h3 : ∀ i, ∃ x : ℝ, m ((d.tc : Thread nD τ).loc main_arg3) i = (x : EReal)) :
    HasLogits d (byRef (atPass1 m d) d) (logitReal (m ((d.tc : Thread nD τ).loc main_arg0)) (m ((d.tc : Thread nD τ).loc main_arg1))
      (m ((d.tc : Thread nD τ).loc main_arg2)) (m ((d.tc : Thread nD τ).loc main_arg3))) := by
  intro r j
  rw [← logit_real _ _ _ _ h1 h2 h3]
  show (∑ k : Fin 64, hidden (atPass1 m d main_v5) (atPass1 m d main_v3) r k * (atPass1 m d main_v7 : Vec Ideal S64x100000 .f32) (ix2 k j))
      + (atPass1 m d main_v6 : Vec Ideal S1x100000 .f32) (ix2 0 j) = _
  rw [atPass1_v5, atPass1_v3, atPass1_v7, atPass1_v6, bias_apply]
  unfold logit
  congr 1
  exact Finset.sum_congr rfl fun k _ => congrArg₂ (· * ·) (hidden_eq _ _ r (h0 _) k) (weights_apply _ k j)

/-- Logits are kept over the first pass. -/
theorem HasLogits.kept {L : Fin 1024 → Fin 100000 → ℝ} {W W' : Valuation τ sig (Elt Ideal)} (h : Leaves 0 d W W')
    (hL : HasLogits d (byRef W d) L) : HasLogits d (byRef W' d) L := by
  obtain ⟨e5, e3, e7, e6⟩ := pass1_in h
  intro r j
  rw [← hL r j]
  show (∑ k : Fin 64, hidden (W' main_v5) (W' main_v3) r k * (W' main_v7 : Vec Ideal S64x100000 .f32) (ix2 k j))
      + (W' main_v6 : Vec Ideal S1x100000 .f32) (ix2 0 j) = _
  rw [e5, e3, e7, e6]

/-- The result, wherever a run may end. -/
theorem result_eq (h0 : ∀ i, (m ((d.tc : Thread nD τ).loc main_arg0) i).toNat < 100000)
    (h1 : ∀ i, ∃ x : ℝ, m ((d.tc : Thread nD τ).loc main_arg1) i = (x : EReal))
    (h2 : ∀ i, ∃ x : ℝ, m ((d.tc : Thread nD τ).loc main_arg2) i = (x : EReal))
    (h3 : ∀ i, ∃ x : ℝ, m ((d.tc : Thread nD τ).loc main_arg3) i = (x : EReal))
    {W : Valuation τ sig (Elt Ideal)} (h : Ends m d W) : (W main_v10 : Vec Ideal S1024x100000 .f32) = expectedAt m d := by
  obtain ⟨W₁, W₂, e₁, e₂, rfl⟩ := h
  have hL := hasLogits h0 h1 h2 h3
  have hL₁ := hL.kept e₁
  rw [after_v10]
  funext i
  obtain ⟨t, X, r, j, hj, hB, rfl, e⟩ := pass2_out e₂ i
  show (W₂ main_v9 : Vec Ideal S1024x100000 .bf16) (ix2 r _) = _
  rw [e, block_eq hL₁ t hB r j hj]
  show _ - (W₁ main_v8 : Vec Ideal S1024x1 .f32) (ix2 r 0) = _
  rw [logSum_eq hL (pass1_out e₁) r]
  rfl

end Cert.Proof.Value

end
-- ==== Proof.Value.Reference.lean ====
/-
  The reference's result: its table rows are those the ids name, so its logits are those of the arguments, and each less
  the row's greatest, less the logarithm of the sum of such exponentials, is the expected result.
-/
module

public import proofs.«01_k».proof.Proof.Gen.ReferenceIdeal.Run
public import proofs.«01_k».proof.Proof.Shared.Expected
public import Idealize.ShloMosaic.Lib.Routing.Ops
public import Idealize.ShloMosaic.Lib.ReduceAll

@[expose] public section

noncomputable section

namespace Cert.Proof.ValueReference

open Cert.ReferenceIdeal Cert.ReferenceIdeal.Gen Cert.Proof.Shared
open Idealize.ShloMosaic Idealize.ShloMosaic.TcCoe
open scoped BigOperators

/-! ## Two reductions along the columns -/

theorem hostMax_apply {m n : ℕ} {u : Shape} (X : FVec Ideal ⟨2, ![m, n]⟩ .f32) (init : FVec Ideal u .f32)
    (h : (⟨2, ![m, n]⟩ : Shape).ReducesTo [1] ⟨1, ![m]⟩) (hu : 0 < u.numel) (hi : init (Shape.Idx.first hu) = (⊥ : EReal)) (r : Fin m) :
    Host.reduce FloatOps.maximumf X init h hu (ix1 r) = Finset.univ.fold max (⊥ : EReal) fun j => X (ix2 r j) := by
  rw [Host.reduce_eq_fold, h.fold_fiber_r2_a1, hi]
  rfl

theorem hostSum_apply {m n : ℕ} {u : Shape} (X : FVec Ideal ⟨2, ![m, n]⟩ .f32) (init : FVec Ideal u .f32)
    (h : (⟨2, ![m, n]⟩ : Shape).ReducesTo [1] ⟨1, ![m]⟩) (hu : 0 < u.numel) (hi : init (Shape.Idx.first hu) = (0 : EReal)) (r : Fin m) :
    Host.reduceAdd X init h hu (ix1 r) = ((0 : EReal) + ∑ j, X (ix2 r j) : EReal) := by
  refine (Ideal.hostReduceAdd_r2_a1 h X (init (Shape.Idx.first hu)) (ix1 r)).trans ?_
  rw [hi]
  rfl

theorem negInf_f32 : Ideal.ofBits .f32 0xFF800000#32 = ⊥ := by simp [Ideal.ofBits, Ideal.ieee]
theorem zero_f32 : Ideal.ofBits .f32 0x00000000#32 = 0 := by simp [Ideal.ofBits, Ideal.ieee]

/-! ## Operations at an index -/

theorem subf_at {s : Shape} (x y : FVec Ideal s .f32) (i : s.Idx) : subf x y i = (x i - y i : EReal) := rfl
theorem maximumf_at {s : Shape} (x y : FVec Ideal s .f32) (i : s.Idx) : maximumf x y i = (max (x i) (y i) : EReal) := rfl
theorem hostExp_at {s : Shape} (x : FVec Ideal s .f32) (i : s.Idx) : Host.exp x i = Ideal.exp (x i) := rfl
theorem hostLog_at {s : Shape} (x : FVec Ideal s .f32) (i : s.Idx) : Host.log x i = Ideal.log (x i) := rfl

/-! ## The rows of the table -/

variable (a0 : IVec S1024 32) (a1 a2 : FVec Ideal S100000x64 .f32) (a3 : FVec Ideal S100000 .f32)

/-- The ids, a negative one counted from the table's end. -/
def starts : IVec S1024x1 32 :=
  broadcastInDim S1024x1 ![0] bcast_S1024_S1024x1_0 (select (cmpi .slt a0 (broadcastInDim S1024 ![] bcast_S_S1024 (constantI S_ 32 0#32)))
    (addi a0 (broadcastInDim S1024 ![] bcast_S_S1024 (constantI S_ 32 100000#32))) a0)

/-- Whether an id names a row. -/
def inside : IVec S1024 1 :=
  Host.reduce IntOp.andi (andi (cmpi .sge (starts a0) (broadcastInDim S1024x1 ![] bcast_S_S1024x1 (constantI S_ 32 0#32)))
    (cmpi .sle (starts a0) (broadcastInDim S1024x1 ![0, 1] bcast_S1x1_S1024x1_0_1 (broadcastInDim S1x1 ![1] bcast_S1_S1x1_1 (constantI S1 32 99999#32)))))
    (constantI S_ 1 1#1) reducesTo_S1024x1_S1024_d1 h_S_

/-- The rows taken, or a fill where an id names none. -/
def taken : FVec Ideal S1024x64 .f32 :=
  select (broadcastInDim S1024x64 ![0] bcast_S1024_S1024x64_0 (inside a0))
    (Host.gather gather_S100000x64_S1024x1_S1024x64_1_0_n_n_0_1_164 a1 (starts a0))
    (broadcastInDim S1024x64 ![] bcast_S_S1024x64 (constant S_ .f32 0x7FC00000#32))

/-- The logits. -/
def logits : FVec Ideal S1024x100000 .f32 :=
  addf (Host.dotGeneral dot_S1024x64_S64x100000_S1024x100000_1_0_0_1_n_n none (taken a0 a1)
      (transpose S64x100000 [1, 0] a2 transposes_S100000x64_S64x100000_1_0))
    (broadcastInDim S1024x100000 ![0, 1] bcast_S1x100000_S1024x100000_0_1 (broadcastInDim S1x100000 ![1] bcast_S100000_S1x100000_1 a3))

variable (L : FVec Ideal S1024x100000 .f32)

/-- Each row's greatest logit. -/
def greatest : FVec Ideal S1024 .f32 :=
  Host.reduce FloatOps.maximumf L (constant S_ .f32 0xFF800000#32) reducesTo_S1024x100000_S1024_d1 h_S_

/-- A column along the rows. -/
def spread (M : FVec Ideal S1024 .f32) : FVec Ideal S1024x1 .f32 := broadcastInDim S1024x1 ![0] bcast_S1024_S1024x1_0 M

/-- A column over every class. -/
def wide (M : FVec Ideal S1024x1 .f32) : FVec Ideal S1024x100000 .f32 :=
  broadcastInDim S1024x100000 ![0, 1] bcast_S1024x1_S1024x100000_0_1 M

/-- Each logit less its row's greatest. -/
def shifted : FVec Ideal S1024x100000 .f32 :=
  subf L (wide (spread (maximumf (broadcastInDim S1024 ![] bcast_S_S1024 (constant S_ .f32 0xFF800000#32)) (greatest L))))

/-- The rows' sums. -/
def sums (X : FVec Ideal S1024x100000 .f32) : FVec Ideal S1024 .f32 :=
  Host.reduceAdd X (constant S_ .f32 0x00000000#32) reducesTo_S1024x100000_S1024_d1 h_S_

/-- The result from the logits. -/
def normalized : FVec Ideal S1024x100000 .f32 :=
  subf (shifted L) (wide (Host.log (spread (sums (Host.exp (shifted L))))))

variable {a0}

theorem starts_apply {r : Fin 1024} (h : (a0 (ix1 r)).toNat < 100000) : starts a0 (ix2 r 0) = a0 (ix1 r) := by
  unfold starts
  pointwise
  have e : ¬ IntOp.cmpi .slt (a0 (ix1 r)) 0#32 = 1 := by
    rw [show (1 : BitVec 1) = 1#1 from rfl, IntOp.cmpi_slt, BitVec.toInt_eq_toNat_cond]
    simp only [BitVec.toInt_zero]
    omega
  rw [Scalar.select, if_neg e]

theorem inside_apply (h : ∀ i, (a0 i).toNat < 100000) (j : S1024.Idx) : inside a0 j = 1#1 := by
  refine Host.reduce_andi_one _ _ _ _ _ rfl fun i => ?_
  obtain ⟨r, k, rfl⟩ : ∃ r k, i = ix2 r k := ⟨i 0, i 1, by funext a; match a with | ⟨0, _⟩ => rfl | ⟨1, _⟩ => rfl⟩
  obtain rfl : k = 0 := Subsingleton.elim _ _
  show IntOp.andi (IntOp.cmpi .sge (starts a0 (ix2 r 0)) 0#32) (IntOp.cmpi .sle (starts a0 (ix2 r 0)) 99999#32) = 1#1
  have hr := h (ix1 r)
  rw [starts_apply hr]
  refine IntOp.andi_eq_one.2 ⟨IntOp.cmpi_sge.2 ?_, IntOp.cmpi_sle.2 ?_⟩ <;>
    simp only [BitVec.toInt_eq_toNat_cond, BitVec.toNat_ofNat, Nat.reducePow, Nat.reduceMod] <;> omega

theorem taken_apply (h : ∀ i, (a0 i).toNat < 100000) (r : Fin 1024) (k : Fin 64) : taken a0 a1 (ix2 r k) = a1 (ix2 (row (a0 (ix1 r))) k) := by
  show Scalar.select (inside a0 _) (Host.gather gather_S100000x64_S1024x1_S1024x64_1_0_n_n_0_1_164 a1 (starts a0) (ix2 r k)) _ = _
  rw [inside_apply h, Scalar.select, if_pos (show (1#1 : BitVec 1) = 1 from rfl)]
  refine Routing.gather_row _ rfl rfl rfl rfl rfl a1 (starts a0) r k (row (a0 (ix1 r))) ?_ (by norm_num)
  refine (starts_apply (h (ix1 r))).trans ?_
  apply BitVec.eq_of_toNat_eq
  rw [BitVec.toNat_ofNat]
  have := h (ix1 r)
  show _ = ((a0 (ix1 r)).toNat % 100000) % 2 ^ 32
  omega

theorem logits_apply (h : ∀ i, (a0 i).toNat < 100000) (r : Fin 1024) (j : Fin 100000) :
    logits a0 a1 a2 a3 (ix2 r j) = logit a0 a1 a2 a3 r j := by
  unfold logits
  pointwise
  unfold logit
  congr 1
  exact Finset.sum_congr rfl fun k _ => by rw [taken_apply a1 h]

/-! ## The normalization -/

theorem wide_apply (M : FVec Ideal S1024x1 .f32) (r : Fin 1024) (j : Fin 100000) : wide M (ix2 r j) = M (ix2 r 0) := by
  unfold wide
  pointwise

theorem spread_apply (M : FVec Ideal S1024 .f32) (r : Fin 1024) : spread M (ix2 r 0) = M (ix1 r) := by
  unfold spread
  pointwise

theorem greatest_apply (r : Fin 1024) : greatest L (ix1 r) = Finset.univ.fold max (⊥ : EReal) fun j => L (ix2 r j) :=
  hostMax_apply L _ _ _ negInf_f32 r

theorem sums_apply (X : FVec Ideal S1024x100000 .f32) (r : Fin 1024) : sums X (ix1 r) = ((0 : EReal) + ∑ j, X (ix2 r j) : EReal) :=
  hostSum_apply X _ _ _ zero_f32 r

theorem least_apply (r : Fin 1024) :
    broadcastInDim S1024 ![] bcast_S_S1024 (constant (F := Ideal) S_ .f32 0xFF800000#32) (ix1 r) = (⊥ : EReal) := negInf_f32

theorem shifted_apply (r : Fin 1024) (j : Fin 100000) :
    shifted L (ix2 r j) = (L (ix2 r j) - max (⊥ : EReal) (Finset.univ.fold max (⊥ : EReal) fun j => L (ix2 r j)) : EReal) := by
  unfold shifted
  rw [subf_at, wide_apply, spread_apply, maximumf_at, greatest_apply, least_apply]

/-- A row's shifted exponentials, summed. -/
theorem sumExp_apply (r : Fin 1024) : sums (Host.exp (shifted L)) (ix1 r)
    = ((0 : EReal) + ∑ j, Ideal.exp (L (ix2 r j) - max (⊥ : EReal) (Finset.univ.fold max (⊥ : EReal) fun j => L (ix2 r j))) : EReal) := by
  rw [sums_apply]
  exact congrArg ((0 : EReal) + ·) (Finset.sum_congr rfl fun j _ => by rw [hostExp_at, shifted_apply])

theorem normalized_apply (r : Fin 1024) (l : Fin 100000 → ℝ) (hl : ∀ j, L (ix2 r j) = (l j : EReal)) (j : Fin 100000) :
    normalized L (ix2 r j) = ((l j : EReal) - (logSum l : ℝ) : EReal) := by
  unfold normalized
  rw [subf_at, wide_apply, hostLog_at, spread_apply, sumExp_apply, shifted_apply]
  exact shifted_sub_log (by norm_num) (fun j => L (ix2 r j)) l hl j

variable (m : (ℓ : Loc nD τ sig) → Buf (Elt Ideal) ℓ) (c : Dev nD)

theorem res_eq : Cert.ReferenceIdeal.Value.res_main_v6 (F := Ideal) m c
    = normalized (logits (m ((c.tc : Thread nD τ).loc main_arg0)) (m ((c.tc : Thread nD τ).loc main_arg1))
        (m ((c.tc : Thread nD τ).loc main_arg2)) (m ((c.tc : Thread nD τ).loc main_arg3))) := rfl

/-- The result. -/
theorem result_eq (h0 : ∀ i, (m ((c.tc : Thread nD τ).loc main_arg0) i).toNat < 100000)
    (h1 : ∀ i, ∃ x : ℝ, m ((c.tc : Thread nD τ).loc main_arg1) i = (x : EReal))
    (h2 : ∀ i, ∃ x : ℝ, m ((c.tc : Thread nD τ).loc main_arg2) i = (x : EReal))
    (h3 : ∀ i, ∃ x : ℝ, m ((c.tc : Thread nD τ).loc main_arg3) i = (x : EReal)) :
    Cert.ReferenceIdeal.Value.res_main_v6 (F := Ideal) m c
      = expected (m ((c.tc : Thread nD τ).loc main_arg0)) (m ((c.tc : Thread nD τ).loc main_arg1)) (m ((c.tc : Thread nD τ).loc main_arg2))
          (m ((c.tc : Thread nD τ).loc main_arg3)) := by
  rw [res_eq]
  funext i
  obtain ⟨r, j, rfl⟩ : ∃ r j, i = ix2 r j := ⟨i 0, i 1, by funext a; match a with | ⟨0, _⟩ => rfl | ⟨1, _⟩ => rfl⟩
  exact normalized_apply _ r _ (fun j => (logits_apply _ _ _ h0 r j).trans (logit_real _ _ _ _ h1 h2 h3 r j)) j

end Cert.Proof.ValueReference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_and_finite
public import proofs.«01_k».proof.Proof.Shared.Finite
public import proofs.«01_k».proof.Proof.Kernel.Frame
public import proofs.«01_k».proof.Proof.KernelIdeal.Frame
public import proofs.«01_k».proof.Proof.Value.Result
public import proofs.«01_k».proof.Proof.Value.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_kernel : Cert.quiescent_Kernel := fun m g hpre =>
  (θ_run Cert.Kernel.defs _ _).mono (fun _ h => ⟨fun c => (h.1 c).1, h.2⟩)
    (RunKernel.run_args (F := Bits) m g fun d => Shared.id_lt (hpre d))

theorem frame_kernel_ideal : Cert.quiescent_KernelIdeal := fun m g hpre =>
  (θ_run Cert.KernelIdeal.defs _ _).mono (fun _ h => ⟨fun c => (h.1 c).1, h.2⟩)
    (RunKernelIdeal.run_args (F := Ideal) m g fun d => Shared.id_lt (hpre d))

theorem frame_kernel_ideal_finite : Cert.quiescent_KernelIdeal_pre_in_range_and_finite := fun m g hpre =>
  (θ_run Cert.KernelIdeal.defs _ _).mono (fun _ h => ⟨fun c => (h.1 c).1, h.2⟩)
    (RunKernelIdeal.run_args (F := Ideal) m g fun d => (Shared.reals (hpre d)).1)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal := IdealRules.named_const.statement _ _ _ _ _ rfl

theorem algebraic : Cert.algebraic_KernelIdeal_ReferenceIdeal_pre_in_range_and_finite := fun m g m' g' hpre hargs =>
  ⟨fun c => Value.expectedAt m c,
    (θ_run Cert.KernelIdeal.defs _ _).mono (fun r h c => by
      obtain ⟨ha, W, hW, e⟩ := h.1 c
      obtain ⟨h0, h1, h2, h3⟩ := Shared.reals (hpre c)
      exact ⟨e.trans (Value.result_eq h0 h1 h2 h3 hW), ha⟩)
      (RunKernelIdeal.run_args (F := Ideal) m g fun d => (Shared.reals (hpre d)).1),
    (θ_run Cert.ReferenceIdeal.defs _ _).mono (fun r h c => by
      obtain ⟨h0, h1, h2, h3⟩ := Shared.reals (hpre c)
      obtain ⟨e0, e1, e2, e3⟩ := hargs c
      refine ⟨((h c).1.trans (ValueReference.result_eq m' c ?_ ?_ ?_ ?_)).trans ?_, (h c).2⟩
      · rw [e0]; exact h0
      · rw [e1]; exact h1
      · rw [e2]; exact h2
      · rw [e3]; exact h3
      · rw [e0, e1, e2, e3])
      (Cert.ReferenceIdeal.Value.run (F := Ideal) m' g')⟩

theorem claim : Cert.Claim := ⟨Cert.Kernel.Gen.facts, Cert.KernelIdeal.Gen.facts, Cert.ReferenceIdeal.Gen.facts, Cert.Pre_in_range.Gen.facts, Cert.Pre_in_range_and_finite.Gen.facts,
  frame_kernel, frame_kernel_ideal, frame_kernel_ideal_finite, frame_reference, fun m g _ => frame_reference m g trivial, preserves, algebraic⟩

end Cert.Proof

end
